-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_net_zero_biases [hPre_finite_net_zero_biases : Cert.Pre_finite_net_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_finite_net_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_net_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_net_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite_net_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite_net_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_net_zero_biases [hPre_finite_net_zero_biases : Cert.Pre_finite_net_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_net_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_net_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_net_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite_net_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite_net_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_net_zero_biases [hKernelIdeal : Cert.KernelIdeal.Facts] [hPre_finite_net_zero_biases : Cert.Pre_finite_net_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_net_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_net_zero_biases [hReferenceIdeal : Cert.ReferenceIdeal.Facts] [hPre_finite_net_zero_biases : Cert.Pre_finite_net_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_net_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_net_zero_biases [hKernelIdeal : Cert.KernelIdeal.Facts] [hReferenceIdeal : Cert.ReferenceIdeal.Facts] [hPre_finite_net_zero_biases : Cert.Pre_finite_net_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_net_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v155) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_net_zero_biases : Cert.Pre_finite_net_zero_biases.Facts),
    quiescent_Kernel (hKernel := hKernel)
    ∧ quiescent_KernelIdeal (hKernelIdeal := hKernelIdeal)
    ∧ quiescent_KernelIdeal_pre_finite_net_zero_biases (hKernelIdeal := hKernelIdeal) (hPre_finite_net_zero_biases := hPre_finite_net_zero_biases)
    ∧ quiescent_ReferenceIdeal (hReferenceIdeal := hReferenceIdeal)
    ∧ quiescent_ReferenceIdeal_pre_finite_net_zero_biases (hReferenceIdeal := hReferenceIdeal) (hPre_finite_net_zero_biases := hPre_finite_net_zero_biases)
    ∧ preserves_Kernel_KernelIdeal
    ∧ algebraic_KernelIdeal_ReferenceIdeal_pre_finite_net_zero_biases (hKernelIdeal := hKernelIdeal) (hReferenceIdeal := hReferenceIdeal) (hPre_finite_net_zero_biases := hPre_finite_net_zero_biases)
-- ==== Pre_finite_net_zero_biases.lean ====
abbrev S262144x1 : Shape := ⟨2, ![262144, 1]⟩
abbrev S262144x16 : Shape := ⟨2, ![262144, 16]⟩
abbrev S16x64 : Shape := ⟨2, ![16, 64]⟩
abbrev S64 : Shape := ⟨1, ![64]⟩
abbrev S64x193 : Shape := ⟨2, ![64, 193]⟩
abbrev S193 : Shape := ⟨1, ![193]⟩
abbrev S_ : Shape := ⟨0, ![]⟩

class Facts : Prop where
  bcast_S_S262144x16 : S_.BroadcastsInDim S262144x16 (![] : Fin 0 → Fin S262144x16.rank)
  bcast_S_S16x64 : S_.BroadcastsInDim S16x64 (![] : Fin 0 → Fin S16x64.rank)
  bcast_S_S64x193 : S_.BroadcastsInDim S64x193 (![] : Fin 0 → Fin S64x193.rank)
  bcast_S_S64 : S_.BroadcastsInDim S64 (![] : Fin 0 → Fin S64.rank)
  bcast_S_S193 : S_.BroadcastsInDim S193 (![] : Fin 0 → Fin S193.rank)

variable [Facts]

def fn {F : FTy → Type} [FloatOps F] (main_arg0 : FVec F S262144x1 .f32) (main_arg1 : FVec F S262144x16 .f32) (main_arg2 : FVec F S16x64 .f32) (main_arg3 : FVec F S64 .f32) (main_arg4 : FVec F S64x193 .f32) (main_arg5 : FVec F S193 .f32) : IVec S262144x16 1 × IVec S16x64 1 × IVec S64x193 1 × IVec S64 1 × IVec S193 1 :=
  let main_v0 : FVec F S262144x16 .f32 := Host.absf main_arg1
  let main_cst : FVec F S_ .f32 := constant S_ .f32 0x7F800000#32
  let main_v1 : FVec F S262144x16 .f32 := broadcastInDim S262144x16 ![] bcast_S_S262144x16 main_cst
  let main_v2 : IVec S262144x16 1 := cmpf .olt main_v0 main_v1
  let main_v3 : FVec F S16x64 .f32 := Host.absf main_arg2
  let main_cst_0 : FVec F S_ .f32 := constant S_ .f32 0x7F800000#32
  let main_v4 : FVec F S16x64 .f32 := broadcastInDim S16x64 ![] bcast_S_S16x64 main_cst_0
  let main_v5 : IVec S16x64 1 := cmpf .olt main_v3 main_v4
  let main_v6 : FVec F S64x193 .f32 := Host.absf main_arg4
  let main_cst_1 : FVec F S_ .f32 := constant S_ .f32 0x7F800000#32
  let main_v7 : FVec F S64x193 .f32 := broadcastInDim S64x193 ![] bcast_S_S64x193 main_cst_1
  let main_v8 : IVec S64x193 1 := cmpf .olt main_v6 main_v7
  let main_cst_2 : FVec F S_ .f32 := constant S_ .f32 0x00000000#32
  let main_v9 : FVec F S64 .f32 := broadcastInDim S64 ![] bcast_S_S64 main_cst_2
  let main_v10 : IVec S64 1 := cmpf .oeq main_arg3 main_v9
  let main_cst_3 : FVec F S_ .f32 := constant S_ .f32 0x00000000#32
  let main_v11 : FVec F S193 .f32 := broadcastInDim S193 ![] bcast_S_S193 main_cst_3
  let main_v12 : IVec S193 1 := cmpf .oeq main_arg5 main_v11
  (main_v2, main_v5, main_v8, main_v10, main_v12)
-- ==== Kernel.lean ====
abbrev S262144x1 : Shape := ⟨2, ![262144, 1]⟩
abbrev S262144x16 : Shape := ⟨2, ![262144, 16]⟩
abbrev S16x64 : Shape := ⟨2, ![16, 64]⟩
abbrev S64 : Shape := ⟨1, ![64]⟩
abbrev S64x193 : Shape := ⟨2, ![64, 193]⟩
abbrev S193 : Shape := ⟨1, ![193]⟩
abbrev S16x1x16384 : Shape := ⟨3, ![16, 1, 16384]⟩
abbrev S64x16 : Shape := ⟨2, ![64, 16]⟩
abbrev S_ : Shape := ⟨0, ![]⟩
abbrev S64x200 : Shape := ⟨2, ![64, 200]⟩
abbrev S1 : Shape := ⟨1, ![1]⟩
abbrev S200x64 : Shape := ⟨2, ![200, 64]⟩
abbrev S262144 : Shape := ⟨1, ![262144]⟩
abbrev S1x1x16384 : Shape := ⟨3, ![1, 1, 16384]⟩
abbrev S16384x16 : Shape := ⟨2, ![16384, 16]⟩
abbrev S1x16384 : Shape := ⟨2, ![1, 16384]⟩
abbrev S64x16384 : Shape := ⟨2, ![64, 16384]⟩
abbrev S200x16384 : Shape := ⟨2, ![200, 16384]⟩
abbrev S72x16384 : Shape := ⟨2, ![72, 16384]⟩
abbrev S64x64 : Shape := ⟨2, ![64, 64]⟩
abbrev S64x1 : Shape := ⟨2, ![64, 1]⟩
abbrev S16384 : Shape := ⟨1, ![16384]⟩
abbrev S72x1 : Shape := ⟨2, ![72, 1]⟩

abbrev nBuf : Space → Nat
  | .hbm => 20
  | .vmem => 10
  | .smem => 0
  | _ => 0

abbrev bufTy : (tb : Table) → Fin (tcTables nBuf tb) → BufTy
  | .hbm, ⟨0, _⟩ => ⟨S262144x1, .f32⟩
  | .hbm, ⟨1, _⟩ => ⟨S262144x16, .f32⟩
  | .hbm, ⟨2, _⟩ => ⟨S16x64, .f32⟩
  | .hbm, ⟨3, _⟩ => ⟨S64, .f32⟩
  | .hbm, ⟨4, _⟩ => ⟨S64x193, .f32⟩
  | .hbm, ⟨5, _⟩ => ⟨S193, .f32⟩
  | .hbm, ⟨6, _⟩ => ⟨S16x1x16384, .f32⟩
  | .hbm, ⟨7, _⟩ => ⟨S64x16, .f32⟩
  | .hbm, ⟨8, _⟩ => ⟨S64x16, .bf16⟩
  | .hbm, ⟨9, _⟩ => ⟨S_, .f32⟩
  | .hbm, ⟨10, _⟩ => ⟨S64x200, .f32⟩
  | .hbm, ⟨11, _⟩ => ⟨S_, .i32⟩
  | .hbm, ⟨12, _⟩ => ⟨S1, .i32⟩
  | .hbm, ⟨13, _⟩ => ⟨S64x200, .f32⟩
  | .hbm, ⟨14, _⟩ => ⟨S200x64, .f32⟩
  | .hbm, ⟨15, _⟩ => ⟨S200x64, .bf16⟩
  | .hbm, ⟨16, _⟩ => ⟨S16x1x16384, .f32⟩
  | .hbm, ⟨17, _⟩ => ⟨S16x1x16384, .f32⟩
  | .hbm, ⟨18, _⟩ => ⟨S262144x1, .f32⟩
  | .hbm, ⟨19, _⟩ => ⟨S262144, .f32⟩
  | .local _ .vmem, ⟨0, _⟩ => ⟨S1x1x16384, .f32⟩
  | .local _ .vmem, ⟨1, _⟩ => ⟨S1x1x16384, .f32⟩
  | .local _ .vmem, ⟨2, _⟩ => ⟨S16384x16, .f32⟩
  | .local _ .vmem, ⟨3, _⟩ => ⟨S16384x16, .f32⟩
  | .local _ .vmem, ⟨4, _⟩ => ⟨S64x16, .bf16⟩
  | .local _ .vmem, ⟨5, _⟩ => ⟨S200x64, .bf16⟩
  | .local _ .vmem, ⟨6, _⟩ => ⟨S1x1x16384, .f32⟩
  | .local _ .vmem, ⟨7, _⟩ => ⟨S1x1x16384, .f32⟩
  | .local _ .vmem, ⟨8, _⟩ => ⟨S1x1x16384, .f32⟩
  | .local _ .vmem, ⟨9, _⟩ => ⟨S1x1x16384, .f32⟩
  | _, _ => ⟨S262144x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_cst : Ref sig .tc := ⟨.hbm, 9, rfl⟩
abbrev main_call0_v3 : Ref sig .tc := ⟨.hbm, 10, rfl⟩
abbrev main_call0_c : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8_0 : Ref sig .tc := ⟨.hbm, 16, rfl⟩
abbrev main_call0_v8_1 : Ref sig .tc := ⟨.hbm, 17, rfl⟩
abbrev main_v0_0 : Ref sig .tc := ⟨.hbm, 18, rfl⟩
abbrev main_v0_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x16384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S262144x1 : Shape := ⟨2, ![262144, 1]⟩
abbrev S262144x16 : Shape := ⟨2, ![262144, 16]⟩
abbrev S16x64 : Shape := ⟨2, ![16, 64]⟩
abbrev S64 : Shape := ⟨1, ![64]⟩
abbrev S64x193 : Shape := ⟨2, ![64, 193]⟩
abbrev S193 : Shape := ⟨1, ![193]⟩
abbrev S262144x64 : Shape := ⟨2, ![262144, 64]⟩
abbrev S1x64 : Shape := ⟨2, ![1, 64]⟩
abbrev S_ : Shape := ⟨0, ![]⟩
abbrev S262144x193 : Shape := ⟨2, ![262144, 193]⟩
abbrev S1x193 : Shape := ⟨2, ![1, 193]⟩
abbrev S262144x65 : Shape := ⟨2, ![262144, 65]⟩
abbrev S262144 : Shape := ⟨1, ![262144]⟩
abbrev S1 : Shape := ⟨1, ![1]⟩
abbrev S262144x1x1 : Shape := ⟨3, ![262144, 1, 1]⟩
abbrev S1x1x1 : Shape := ⟨3, ![1, 1, 1]⟩

abbrev nBuf : Space → Nat
  | .hbm => 361
  | .vmem => 0
  | .smem => 0
  | _ => 0

abbrev hbmTy0_0 (i : Nat) : BufTy := match i % 128 with
  | 0 => ⟨S262144x1, .f32⟩
  | 1 => ⟨S262144x16, .f32⟩
  | 2 => ⟨S16x64, .f32⟩
  | 3 => ⟨S64, .f32⟩
  | 4 => ⟨S64x193, .f32⟩
  | 5 => ⟨S193, .f32⟩
  | 6 => ⟨S262144x64, .f32⟩
  | 7 => ⟨S1x64, .f32⟩
  | 8 => ⟨S262144x64, .f32⟩
  | 9 => ⟨S262144x64, .f32⟩
  | 10 => ⟨S_, .f32⟩
  | 11 => ⟨S262144x64, .f32⟩
  | 12 => ⟨S262144x64, .f32⟩
  | 13 => ⟨S262144x193, .f32⟩
  | 14 => ⟨S1x193, .f32⟩
  | 15 => ⟨S262144x193, .f32⟩
  | 16 => ⟨S262144x193, .f32⟩
  | 17 => ⟨S262144x64, .f32⟩
  | 18 => ⟨S262144x64, .f32⟩
  | 19 => ⟨S262144x65, .f32⟩
  | 20 => ⟨S_, .f32⟩
  | 21 => ⟨S262144, .f32⟩
  | 22 => ⟨S_, .f32⟩
  | 23 => ⟨S262144, .f32⟩
  | 24 => ⟨S262144, .f32⟩
  | 25 => ⟨S262144x1, .f32⟩
  | 26 => ⟨S262144x64, .f32⟩
  | 27 => ⟨S262144x64, .f32⟩
  | 28 => ⟨S262144x64, .f32⟩
  | 29 => ⟨S_, .f32⟩
  | 30 => ⟨S262144, .f32⟩
  | 31 => ⟨S262144x1, .f32⟩
  | 32 => ⟨S262144x64, .f32⟩
  | 33 => ⟨S262144x64, .f32⟩
  | 34 => ⟨S_, .f32⟩
  | 35 => ⟨S262144x64, .f32⟩
  | 36 => ⟨S262144x64, .f32⟩
  | 37 => ⟨S_, .f32⟩
  | 38 => ⟨S262144, .f32⟩
  | 39 => ⟨S_, .f32⟩
  | 40 => ⟨S262144, .f32⟩
  | 41 => ⟨S262144, .f32⟩
  | 42 => ⟨S262144x1, .f32⟩
  | 43 => ⟨S262144x64, .f32⟩
  | 44 => ⟨S262144x64, .f32⟩
  | 45 => ⟨S262144x64, .f32⟩
  | 46 => ⟨S_, .f32⟩
  | 47 => ⟨S262144, .f32⟩
  | 48 => ⟨S262144x1, .f32⟩
  | 49 => ⟨S262144x64, .f32⟩
  | 50 => ⟨S262144x64, .f32⟩
  | 51 => ⟨S_, .f32⟩
  | 52 => ⟨S262144x64, .f32⟩
  | 53 => ⟨S262144x64, .f32⟩
  | 54 => ⟨S_, .f32⟩
  | 55 => ⟨S262144x65, .f32⟩
  | 56 => ⟨S262144x65, .f32⟩
  | 57 => ⟨S262144x65, .f32⟩
  | 58 => ⟨S262144x65, .f32⟩
  | 59 => ⟨S262144x65, .i1⟩
  | 60 => ⟨S262144x65, .f32⟩
  | 61 => ⟨S262144x65, .f32⟩
  | 62 => ⟨S262144x65, .f32⟩
  | 63 => ⟨S262144x65, .f32⟩
  | 64 => ⟨S262144x65, .f32⟩
  | 65 => ⟨S262144x65, .f32⟩
  | 66 => ⟨S262144x65, .f32⟩
  | 67 => ⟨S262144x65, .f32⟩
  | 68 => ⟨S_, .f32⟩
  | 69 => ⟨S262144x65, .f32⟩
  | 70 => ⟨S262144x65, .f32⟩
  | 71 => ⟨S_, .f32⟩
  | 72 => ⟨S262144x65, .f32⟩
  | 73 => ⟨S_, .i32⟩
  | 74 => ⟨S1, .i32⟩
  | 75 => ⟨S_, .f32⟩
  | 76 => ⟨S262144, .f32⟩
  | 77 => ⟨S262144x65, .f32⟩
  | 78 => ⟨S_, .f32⟩
  | 79 => ⟨S_, .f32⟩
  | 80 => ⟨S262144x64, .f32⟩
  | 81 => ⟨S_, .f32⟩
  | 82 => ⟨S262144x64, .f32⟩
  | 83 => ⟨S262144x64, .f32⟩
  | 84 => ⟨S_, .i32⟩
  | 85 => ⟨S1, .i32⟩
  | 86 => ⟨S262144x65, .f32⟩
  | 87 => ⟨S_, .i32⟩
  | 88 => ⟨S1, .i32⟩
  | 89 => ⟨S_, .f32⟩
  | 90 => ⟨S262144, .f32⟩
  | 91 => ⟨S262144x65, .f32⟩
  | 92 => ⟨S_, .f32⟩
  | 93 => ⟨S262144x65, .f32⟩
  | 94 => ⟨S_, .i32⟩
  | 95 => ⟨S1, .i32⟩
  | 96 => ⟨S_, .f32⟩
  | 97 => ⟨S262144, .f32⟩
  | 98 => ⟨S262144x65, .f32⟩
  | 99 => ⟨S_, .f32⟩
  | 100 => ⟨S_, .f32⟩
  | 101 => ⟨S262144x64, .f32⟩
  | 102 => ⟨S_, .f32⟩
  | 103 => ⟨S262144x64, .f32⟩
  | 104 => ⟨S262144x64, .f32⟩
  | 105 => ⟨S_, .i32⟩
  | 106 => ⟨S1, .i32⟩
  | 107 => ⟨S262144x65, .f32⟩
  | 108 => ⟨S_, .i32⟩
  | 109 => ⟨S1, .i32⟩
  | 110 => ⟨S_, .f32⟩
  | 111 => ⟨S262144, .f32⟩
  | 112 => ⟨S262144x65, .f32⟩
  | 113 => ⟨S262144, .f32⟩
  | 114 => ⟨S262144x1, .f32⟩
  | 115 => ⟨S262144x65, .f32⟩
  | 116 => ⟨S262144x65, .i1⟩
  | 117 => ⟨S262144x65, .i32⟩
  | 118 => ⟨S_, .i32⟩
  | 119 => ⟨S262144, .i32⟩
  | 120 => ⟨S_, .i32⟩
  | 121 => ⟨S262144, .i32⟩
  | 122 => ⟨S262144, .i32⟩
  | 123 => ⟨S_, .i32⟩
  | 124 => ⟨S_, .i32⟩
  | 125 => ⟨S_, .i32⟩
  | 126 => ⟨S262144, .i32⟩
  | 127 => ⟨S262144, .i32⟩
  | _ => ⟨S262144x1, .f32⟩

abbrev hbmTy0_1 (i : Nat) : BufTy := match i % 128 with
  | 0 => ⟨S_, .i32⟩
  | 1 => ⟨S262144, .i32⟩
  | 2 => ⟨S262144, .i32⟩
  | 3 => ⟨S262144x1, .i32⟩
  | 4 => ⟨S_, .i32⟩
  | 5 => ⟨S262144x1, .i32⟩
  | 6 => ⟨S262144x1, .i1⟩
  | 7 => ⟨S_, .i32⟩
  | 8 => ⟨S262144x1, .i32⟩
  | 9 => ⟨S262144x1, .i32⟩
  | 10 => ⟨S262144x1, .i32⟩
  | 11 => ⟨S262144x1x1, .i32⟩
  | 12 => ⟨S1, .i32⟩
  | 13 => ⟨S_, .i32⟩
  | 14 => ⟨S262144x1x1, .i32⟩
  | 15 => ⟨S262144x1x1, .i1⟩
  | 16 => ⟨S1x1x1, .i32⟩
  | 17 => ⟨S262144x1x1, .i32⟩
  | 18 => ⟨S262144x1x1, .i1⟩
  | 19 => ⟨S262144x1x1, .i1⟩
  | 20 => ⟨S_, .i1⟩
  | 21 => ⟨S262144x1, .i1⟩
  | 22 => ⟨S262144x1, .f32⟩
  | 23 => ⟨S_, .f32⟩
  | 24 => ⟨S262144x1, .f32⟩
  | 25 => ⟨S262144x1, .f32⟩
  | 26 => ⟨S262144, .f32⟩
  | 27 => ⟨S_, .i32⟩
  | 28 => ⟨S262144x1, .i32⟩
  | 29 => ⟨S262144x1, .i1⟩
  | 30 => ⟨S_, .i32⟩
  | 31 => ⟨S262144x1, .i32⟩
  | 32 => ⟨S262144x1, .i32⟩
  | 33 => ⟨S262144x1, .i32⟩
  | 34 => ⟨S262144x1x1, .i32⟩
  | 35 => ⟨S1, .i32⟩
  | 36 => ⟨S_, .i32⟩
  | 37 => ⟨S262144x1x1, .i32⟩
  | 38 => ⟨S262144x1x1, .i1⟩
  | 39 => ⟨S1x1x1, .i32⟩
  | 40 => ⟨S262144x1x1, .i32⟩
  | 41 => ⟨S262144x1x1, .i1⟩
  | 42 => ⟨S262144x1x1, .i1⟩
  | 43 => ⟨S_, .i1⟩
  | 44 => ⟨S262144x1, .i1⟩
  | 45 => ⟨S262144x1, .f32⟩
  | 46 => ⟨S_, .f32⟩
  | 47 => ⟨S262144x1, .f32⟩
  | 48 => ⟨S262144x1, .f32⟩
  | 49 => ⟨S262144, .f32⟩
  | 50 => ⟨S_, .i32⟩
  | 51 => ⟨S262144x1, .i32⟩
  | 52 => ⟨S262144x1, .i32⟩
  | 53 => ⟨S_, .i32⟩
  | 54 => ⟨S262144x1, .i32⟩
  | 55 => ⟨S262144x1, .i1⟩
  | 56 => ⟨S_, .i32⟩
  | 57 => ⟨S262144x1, .i32⟩
  | 58 => ⟨S262144x1, .i32⟩
  | 59 => ⟨S262144x1, .i32⟩
  | 60 => ⟨S262144x1x1, .i32⟩
  | 61 => ⟨S1, .i32⟩
  | 62 => ⟨S_, .i32⟩
  | 63 => ⟨S262144x1x1, .i32⟩
  | 64 => ⟨S262144x1x1, .i1⟩
  | 65 => ⟨S1x1x1, .i32⟩
  | 66 => ⟨S262144x1x1, .i32⟩
  | 67 => ⟨S262144x1x1, .i1⟩
  | 68 => ⟨S262144x1x1, .i1⟩
  | 69 => ⟨S_, .i1⟩
  | 70 => ⟨S262144x1, .i1⟩
  | 71 => ⟨S262144x1, .f32⟩
  | 72 => ⟨S_, .f32⟩
  | 73 => ⟨S262144x1, .f32⟩
  | 74 => ⟨S262144x1, .f32⟩
  | 75 => ⟨S262144, .f32⟩
  | 76 => ⟨S_, .i32⟩
  | 77 => ⟨S262144x1, .i32⟩
  | 78 => ⟨S262144x1, .i32⟩
  | 79 => ⟨S_, .i32⟩
  | 80 => ⟨S262144x1, .i32⟩
  | 81 => ⟨S262144x1, .i1⟩
  | 82 => ⟨S_, .i32⟩
  | 83 => ⟨S262144x1, .i32⟩
  | 84 => ⟨S262144x1, .i32⟩
  | 85 => ⟨S262144x1, .i32⟩
  | 86 => ⟨S262144x1x1, .i32⟩
  | 87 => ⟨S1, .i32⟩
  | 88 => ⟨S_, .i32⟩
  | 89 => ⟨S262144x1x1, .i32⟩
  | 90 => ⟨S262144x1x1, .i1⟩
  | 91 => ⟨S1x1x1, .i32⟩
  | 92 => ⟨S262144x1x1, .i32⟩
  | 93 => ⟨S262144x1x1, .i1⟩
  | 94 => ⟨S262144x1x1, .i1⟩
  | 95 => ⟨S_, .i1⟩
  | 96 => ⟨S262144x1, .i1⟩
  | 97 => ⟨S262144x1, .f32⟩
  | 98 => ⟨S_, .f32⟩
  | 99 => ⟨S262144x1, .f32⟩
  | 100 => ⟨S262144x1, .f32⟩
  | 101 => ⟨S262144, .f32⟩
  | 102 => ⟨S_, .i32⟩
  | 103 => ⟨S262144x1, .i32⟩
  | 104 => ⟨S262144x1, .i1⟩
  | 105 => ⟨S_, .i32⟩
  | 106 => ⟨S262144x1, .i32⟩
  | 107 => ⟨S262144x1, .i32⟩
  | 108 => ⟨S262144x1, .i32⟩
  | 109 => ⟨S262144x1x1, .i32⟩
  | 110 => ⟨S1, .i32⟩
  | 111 => ⟨S_, .i32⟩
  | 112 => ⟨S262144x1x1, .i32⟩
  | 113 => ⟨S262144x1x1, .i1⟩
  | 114 => ⟨S1x1x1, .i32⟩
  | 115 => ⟨S262144x1x1, .i32⟩
  | 116 => ⟨S262144x1x1, .i1⟩
  | 117 => ⟨S262144x1x1, .i1⟩
  | 118 => ⟨S_, .i1⟩
  | 119 => ⟨S262144x1, .i1⟩
  | 120 => ⟨S262144x1, .f32⟩
  | 121 => ⟨S_, .f32⟩
  | 122 => ⟨S262144x1, .f32⟩
  | 123 => ⟨S262144x1, .f32⟩
  | 124 => ⟨S262144, .f32⟩
  | 125 => ⟨S_, .i32⟩
  | 126 => ⟨S262144x1, .i32⟩
  | 127 => ⟨S262144x1, .i32⟩
  | _ => ⟨S262144x1, .f32⟩

abbrev hbmTy0_2 (i : Nat) : BufTy := match i % 128 with
  | 0 => ⟨S_, .i32⟩
  | 1 => ⟨S262144x1, .i32⟩
  | 2 => ⟨S262144x1, .i1⟩
  | 3 => ⟨S_, .i32⟩
  | 4 => ⟨S262144x1, .i32⟩
  | 5 => ⟨S262144x1, .i32⟩
  | 6 => ⟨S262144x1, .i32⟩
  | 7 => ⟨S262144x1x1, .i32⟩
  | 8 => ⟨S1, .i32⟩
  | 9 => ⟨S_, .i32⟩
  | 10 => ⟨S262144x1x1, .i32⟩
  | 11 => ⟨S262144x1x1, .i1⟩
  | 12 => ⟨S1x1x1, .i32⟩
  | 13 => ⟨S262144x1x1, .i32⟩
  | 14 => ⟨S262144x1x1, .i1⟩
  | 15 => ⟨S262144x1x1, .i1⟩
  | 16 => ⟨S_, .i1⟩
  | 17 => ⟨S262144x1, .i1⟩
  | 18 => ⟨S262144x1, .f32⟩
  | 19 => ⟨S_, .f32⟩
  | 20 => ⟨S262144x1, .f32⟩
  | 21 => ⟨S262144x1, .f32⟩
  | 22 => ⟨S262144, .f32⟩
  | 23 => ⟨S262144, .f32⟩
  | 24 => ⟨S262144, .f32⟩
  | 25 => ⟨S262144, .f32⟩
  | 26 => ⟨S262144, .f32⟩
  | 27 => ⟨S_, .f32⟩
  | 28 => ⟨S262144, .f32⟩
  | 29 => ⟨S262144, .f32⟩
  | 30 => ⟨S262144, .f32⟩
  | 31 => ⟨S_, .f32⟩
  | 32 => ⟨S_, .f32⟩
  | 33 => ⟨S_, .f32⟩
  | 34 => ⟨S262144, .f32⟩
  | 35 => ⟨S262144, .f32⟩
  | 36 => ⟨S_, .f32⟩
  | 37 => ⟨S262144, .f32⟩
  | 38 => ⟨S262144, .f32⟩
  | 39 => ⟨S262144, .f32⟩
  | 40 => ⟨S262144, .f32⟩
  | 41 => ⟨S262144, .f32⟩
  | 42 => ⟨S_, .f32⟩
  | 43 => ⟨S262144, .f32⟩
  | 44 => ⟨S262144, .f32⟩
  | 45 => ⟨S262144, .f32⟩
  | 46 => ⟨S262144, .f32⟩
  | 47 => ⟨S262144, .f32⟩
  | 48 => ⟨S_, .f32⟩
  | 49 => ⟨S262144, .f32⟩
  | 50 => ⟨S262144, .f32⟩
  | 51 => ⟨S262144, .f32⟩
  | 52 => ⟨S262144, .f32⟩
  | 53 => ⟨S_, .f32⟩
  | 54 => ⟨S262144, .f32⟩
  | 55 => ⟨S262144, .f32⟩
  | 56 => ⟨S262144, .f32⟩
  | 57 => ⟨S262144, .f32⟩
  | 58 => ⟨S_, .f32⟩
  | 59 => ⟨S262144, .f32⟩
  | 60 => ⟨S262144, .f32⟩
  | 61 => ⟨S262144, .f32⟩
  | 62 => ⟨S262144, .f32⟩
  | 63 => ⟨S262144, .f32⟩
  | 64 => ⟨S262144, .f32⟩
  | 65 => ⟨S262144, .f32⟩
  | 66 => ⟨S_, .f32⟩
  | 67 => ⟨S262144, .f32⟩
  | 68 => ⟨S262144, .f32⟩
  | 69 => ⟨S262144, .f32⟩
  | 70 => ⟨S_, .f32⟩
  | 71 => ⟨S262144, .f32⟩
  | 72 => ⟨S262144, .f32⟩
  | 73 => ⟨S262144, .f32⟩
  | 74 => ⟨S262144, .f32⟩
  | 75 => ⟨S_, .f32⟩
  | 76 => ⟨S262144, .f32⟩
  | 77 => ⟨S262144, .f32⟩
  | 78 => ⟨S262144, .f32⟩
  | 79 => ⟨S262144, .f32⟩
  | 80 => ⟨S262144, .f32⟩
  | 81 => ⟨S262144, .f32⟩
  | 82 => ⟨S262144, .f32⟩
  | 83 => ⟨S262144, .f32⟩
  | 84 => ⟨S_, .f32⟩
  | 85 => ⟨S262144, .f32⟩
  | 86 => ⟨S262144, .f32⟩
  | 87 => ⟨S262144, .f32⟩
  | 88 => ⟨S262144, .f32⟩
  | 89 => ⟨S_, .f32⟩
  | 90 => ⟨S262144, .f32⟩
  | 91 => ⟨S262144, .f32⟩
  | 92 => ⟨S262144, .f32⟩
  | 93 => ⟨S262144, .f32⟩
  | 94 => ⟨S262144, .f32⟩
  | 95 => ⟨S_, .f32⟩
  | 96 => ⟨S262144, .f32⟩
  | 97 => ⟨S262144, .f32⟩
  | 98 => ⟨S262144, .f32⟩
  | 99 => ⟨S_, .f32⟩
  | 100 => ⟨S262144, .f32⟩
  | 101 => ⟨S262144, .f32⟩
  | 102 => ⟨S262144, .f32⟩
  | 103 => ⟨S262144, .f32⟩
  | 104 => ⟨S262144x1, .f32⟩
  | _ => ⟨S262144x1, .f32⟩

abbrev hbmTy (i : Nat) : BufTy := match i / 128 with
  | 0 => hbmTy0_0 i
  | 1 => hbmTy0_1 i
  | 2 => hbmTy0_2 i
  | _ => ⟨S262144x1, .f32⟩

abbrev bufTy : (tb : Table) → Fin (tcTables nBuf tb) → BufTy
  | .hbm, ⟨i, _⟩ => hbmTy i
  | _, _ => ⟨S262144x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_v5 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_c : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_call1_call0_cst : Ref sig .tc := ⟨.hbm, 78, rfl⟩
abbrev main_call1_call0_v0 : Ref sig .tc := ⟨.hbm, 79, rfl⟩
abbrev main_v46 : Ref sig .tc := ⟨.hbm, 80, rfl⟩
abbrev main_cst_11 : Ref sig .tc := ⟨.hbm, 81, rfl⟩
abbrev main_v47 : Ref sig .tc := ⟨.hbm, 82, rfl⟩
abbrev main_v48 : Ref sig .tc := ⟨.hbm, 83, rfl⟩
abbrev main_c_12 : Ref sig .tc := ⟨.hbm, 84, rfl⟩
abbrev main_v49 : Ref sig .tc := ⟨.hbm, 85, rfl⟩
abbrev main_v50 : Ref sig .tc := ⟨.hbm, 86, rfl⟩
abbrev main_c_13 : Ref sig .tc := ⟨.hbm, 87, rfl⟩
abbrev main_v51 : Ref sig .tc := ⟨.hbm, 88, rfl⟩
abbrev main_cst_14 : Ref sig .tc := ⟨.hbm, 89, rfl⟩
abbrev main_v52 : Ref sig .tc := ⟨.hbm, 90, rfl⟩
abbrev main_v53 : Ref sig .tc := ⟨.hbm, 91, rfl⟩
abbrev main_cst_15 : Ref sig .tc := ⟨.hbm, 92, rfl⟩
abbrev main_v54 : Ref sig .tc := ⟨.hbm, 93, rfl⟩
abbrev main_c_16 : Ref sig .tc := ⟨.hbm, 94, rfl⟩
abbrev main_v55 : Ref sig .tc := ⟨.hbm, 95, rfl⟩
abbrev main_cst_17 : Ref sig .tc := ⟨.hbm, 96, rfl⟩
abbrev main_v56 : Ref sig .tc := ⟨.hbm, 97, rfl⟩
abbrev main_v57 : Ref sig .tc := ⟨.hbm, 98, rfl⟩
abbrev main_call2_call0_cst : Ref sig .tc := ⟨.hbm, 99, rfl⟩
abbrev main_call2_call0_v0 : Ref sig .tc := ⟨.hbm, 100, rfl⟩
abbrev main_v58 : Ref sig .tc := ⟨.hbm, 101, rfl⟩
abbrev main_cst_18 : Ref sig .tc := ⟨.hbm, 102, rfl⟩
abbrev main_v59 : Ref sig .tc := ⟨.hbm, 103, rfl⟩
abbrev main_v60 : Ref sig .tc := ⟨.hbm, 104, rfl⟩
abbrev main_c_19 : Ref sig .tc := ⟨.hbm, 105, rfl⟩
abbrev main_v61 : Ref sig .tc := ⟨.hbm, 106, rfl⟩
abbrev main_v62 : Ref sig .tc := ⟨.hbm, 107, rfl⟩
abbrev main_c_20 : Ref sig .tc := ⟨.hbm, 108, rfl⟩
abbrev main_v63 : Ref sig .tc := ⟨.hbm, 109, rfl⟩
abbrev main_cst_21 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_c_22 : Ref sig .tc := ⟨.hbm, 118, rfl⟩
abbrev main_v71 : Ref sig .tc := ⟨.hbm, 119, rfl⟩
abbrev main_c_23 : Ref sig .tc := ⟨.hbm, 120, rfl⟩
abbrev main_v72 : Ref sig .tc := ⟨.hbm, 121, rfl⟩
abbrev main_v73 : Ref sig .tc := ⟨.hbm, 122, rfl⟩
abbrev main_c_24 : Ref sig .tc := ⟨.hbm, 123, rfl⟩
abbrev main_c_25 : Ref sig .tc := ⟨.hbm, 124, rfl⟩
abbrev main_call3_v0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_v74 : Ref sig .tc := ⟨.hbm, 130, rfl⟩
abbrev main_v75 : Ref sig .tc := ⟨.hbm, 131, rfl⟩
abbrev main_call4_c : Ref sig .tc := ⟨.hbm, 132, rfl⟩
abbrev main_call4_v0 : Ref sig .tc := ⟨.hbm, 133, rfl⟩
abbrev main_call4_v1 : Ref sig .tc := ⟨.hbm, 134, rfl⟩
abbrev main_call4_c_0 : Ref sig .tc := ⟨.hbm, 135, rfl⟩
abbrev main_call4_v2 : Ref sig .tc := ⟨.hbm, 136, rfl⟩
abbrev main_call4_v3 : Ref sig .tc := ⟨.hbm, 137, rfl⟩
abbrev main_call4_v4 : Ref sig .tc := ⟨.hbm, 138, rfl⟩
abbrev main_call4_v5 : Ref sig .tc := ⟨.hbm, 139, rfl⟩
abbrev main_call4_c_1 : Ref sig .tc := ⟨.hbm, 140, rfl⟩
abbrev main_call4_c_2 : Ref sig .tc := ⟨.hbm, 141, rfl⟩
abbrev main_call4_v6 : Ref sig .tc := ⟨.hbm, 142, rfl⟩
abbrev main_call4_v7 : Ref sig .tc := ⟨.hbm, 143, rfl⟩
abbrev main_call4_v8 : Ref sig .tc := ⟨.hbm, 144, rfl⟩
abbrev main_call4_v9 : Ref sig .tc := ⟨.hbm, 145, rfl⟩
abbrev main_call4_v10 : Ref sig .tc := ⟨.hbm, 146, rfl⟩
abbrev main_call4_v11 : Ref sig .tc := ⟨.hbm, 147, rfl⟩
abbrev main_call4_c_3 : Ref sig .tc := ⟨.hbm, 148, rfl⟩
abbrev main_call4_v12 : Ref sig .tc := ⟨.hbm, 149, rfl⟩
abbrev main_call4_v13 : Ref sig .tc := ⟨.hbm, 150, rfl⟩
abbrev main_call4_cst : Ref sig .tc := ⟨.hbm, 151, rfl⟩
abbrev main_call4_v14 : Ref sig .tc := ⟨.hbm, 152, rfl⟩
abbrev main_v76 : Ref sig .tc := ⟨.hbm, 153, rfl⟩
abbrev main_v77 : Ref sig .tc := ⟨.hbm, 154, rfl⟩
abbrev main_call5_c : Ref sig .tc := ⟨.hbm, 155, rfl⟩
abbrev main_call5_v0 : Ref sig .tc := ⟨.hbm, 156, rfl⟩
abbrev main_call5_v1 : Ref sig .tc := ⟨.hbm, 157, rfl⟩
abbrev main_call5_c_0 : Ref sig .tc := ⟨.hbm, 158, rfl⟩
abbrev main_call5_v2 : Ref sig .tc := ⟨.hbm, 159, rfl⟩
abbrev main_call5_v3 : Ref sig .tc := ⟨.hbm, 160, rfl⟩
abbrev main_call5_v4 : Ref sig .tc := ⟨.hbm, 161, rfl⟩
abbrev main_call5_v5 : Ref sig .tc := ⟨.hbm, 162, rfl⟩
abbrev main_call5_c_1 : Ref sig .tc := ⟨.hbm, 163, rfl⟩
abbrev main_call5_c_2 : Ref sig .tc := ⟨.hbm, 164, rfl⟩
abbrev main_call5_v6 : Ref sig .tc := ⟨.hbm, 165, rfl⟩
abbrev main_call5_v7 : Ref sig .tc := ⟨.hbm, 166, rfl⟩
abbrev main_call5_v8 : Ref sig .tc := ⟨.hbm, 167, rfl⟩
abbrev main_call5_v9 : Ref sig .tc := ⟨.hbm, 168, rfl⟩
abbrev main_call5_v10 : Ref sig .tc := ⟨.hbm, 169, rfl⟩
abbrev main_call5_v11 : Ref sig .tc := ⟨.hbm, 170, rfl⟩
abbrev main_call5_c_3 : Ref sig .tc := ⟨.hbm, 171, rfl⟩
abbrev main_call5_v12 : Ref sig .tc := ⟨.hbm, 172, rfl⟩
abbrev main_call5_v13 : Ref sig .tc := ⟨.hbm, 173, rfl⟩
abbrev main_call5_cst : Ref sig .tc := ⟨.hbm, 174, rfl⟩
abbrev main_call5_v14 : Ref sig .tc := ⟨.hbm, 175, rfl⟩
abbrev main_v78 : Ref sig .tc := ⟨.hbm, 176, rfl⟩
abbrev main_v79 : Ref sig .tc := ⟨.hbm, 177, rfl⟩
abbrev main_c_26 : Ref sig .tc := ⟨.hbm, 178, rfl⟩
abbrev main_v80 : Ref sig .tc := ⟨.hbm, 179, rfl⟩
abbrev main_v81 : Ref sig .tc := ⟨.hbm, 180, rfl⟩
abbrev main_call6_c : Ref sig .tc := ⟨.hbm, 181, rfl⟩
abbrev main_call6_v0 : Ref sig .tc := ⟨.hbm, 182, rfl⟩
abbrev main_call6_v1 : Ref sig .tc := ⟨.hbm, 183, rfl⟩
abbrev main_call6_c_0 : Ref sig .tc := ⟨.hbm, 184, rfl⟩
abbrev main_call6_v2 : Ref sig .tc := ⟨.hbm, 185, rfl⟩
abbrev main_call6_v3 : Ref sig .tc := ⟨.hbm, 186, rfl⟩
abbrev main_call6_v4 : Ref sig .tc := ⟨.hbm, 187, rfl⟩
abbrev main_call6_v5 : Ref sig .tc := ⟨.hbm, 188, rfl⟩
abbrev main_call6_c_1 : Ref sig .tc := ⟨.hbm, 189, rfl⟩
abbrev main_call6_c_2 : Ref sig .tc := ⟨.hbm, 190, rfl⟩
abbrev main_call6_v6 : Ref sig .tc := ⟨.hbm, 191, rfl⟩
abbrev main_call6_v7 : Ref sig .tc := ⟨.hbm, 192, rfl⟩
abbrev main_call6_v8 : Ref sig .tc := ⟨.hbm, 193, rfl⟩
abbrev main_call6_v9 : Ref sig .tc := ⟨.hbm, 194, rfl⟩
abbrev main_call6_v10 : Ref sig .tc := ⟨.hbm, 195, rfl⟩
abbrev main_call6_v11 : Ref sig .tc := ⟨.hbm, 196, rfl⟩
abbrev main_call6_c_3 : Ref sig .tc := ⟨.hbm, 197, rfl⟩
abbrev main_call6_v12 : Ref sig .tc := ⟨.hbm, 198, rfl⟩
abbrev main_call6_v13 : Ref sig .tc := ⟨.hbm, 199, rfl⟩
abbrev main_call6_cst : Ref sig .tc := ⟨.hbm, 200, rfl⟩
abbrev main_call6_v14 : Ref sig .tc := ⟨.hbm, 201, rfl⟩
abbrev main_v82 : Ref sig .tc := ⟨.hbm, 202, rfl⟩
abbrev main_v83 : Ref sig .tc := ⟨.hbm, 203, rfl⟩
abbrev main_c_27 : Ref sig .tc := ⟨.hbm, 204, rfl⟩
abbrev main_v84 : Ref sig .tc := ⟨.hbm, 205, rfl⟩
abbrev main_v85 : Ref sig .tc := ⟨.hbm, 206, rfl⟩
abbrev main_call7_c : Ref sig .tc := ⟨.hbm, 207, rfl⟩
abbrev main_call7_v0 : Ref sig .tc := ⟨.hbm, 208, rfl⟩
abbrev main_call7_v1 : Ref sig .tc := ⟨.hbm, 209, rfl⟩
abbrev main_call7_c_0 : Ref sig .tc := ⟨.hbm, 210, rfl⟩
abbrev main_call7_v2 : Ref sig .tc := ⟨.hbm, 211, rfl⟩
abbrev main_call7_v3 : Ref sig .tc := ⟨.hbm, 212, rfl⟩
abbrev main_call7_v4 : Ref sig .tc := ⟨.hbm, 213, rfl⟩
abbrev main_call7_v5 : Ref sig .tc := ⟨.hbm, 214, rfl⟩
abbrev main_call7_c_1 : Ref sig .tc := ⟨.hbm, 215, rfl⟩
abbrev main_call7_c_2 : Ref sig .tc := ⟨.hbm, 216, rfl⟩
abbrev main_call7_v6 : Ref sig .tc := ⟨.hbm, 217, rfl⟩
abbrev main_call7_v7 : Ref sig .tc := ⟨.hbm, 218, rfl⟩
abbrev main_call7_v8 : Ref sig .tc := ⟨.hbm, 219, rfl⟩
abbrev main_call7_v9 : Ref sig .tc := ⟨.hbm, 220, rfl⟩
abbrev main_call7_v10 : Ref sig .tc := ⟨.hbm, 221, rfl⟩
abbrev main_call7_v11 : Ref sig .tc := ⟨.hbm, 222, rfl⟩
abbrev main_call7_c_3 : Ref sig .tc := ⟨.hbm, 223, rfl⟩
abbrev main_call7_v12 : Ref sig .tc := ⟨.hbm, 224, rfl⟩
abbrev main_call7_v13 : Ref sig .tc := ⟨.hbm, 225, rfl⟩
abbrev main_call7_cst : Ref sig .tc := ⟨.hbm, 226, rfl⟩
abbrev main_call7_v14 : Ref sig .tc := ⟨.hbm, 227, rfl⟩
abbrev main_v86 : Ref sig .tc := ⟨.hbm, 228, rfl⟩
abbrev main_v87 : Ref sig .tc := ⟨.hbm, 229, rfl⟩
abbrev main_call8_c : Ref sig .tc := ⟨.hbm, 230, rfl⟩
abbrev main_call8_v0 : Ref sig .tc := ⟨.hbm, 231, rfl⟩
abbrev main_call8_v1 : Ref sig .tc := ⟨.hbm, 232, rfl⟩
abbrev main_call8_c_0 : Ref sig .tc := ⟨.hbm, 233, rfl⟩
abbrev main_call8_v2 : Ref sig .tc := ⟨.hbm, 234, rfl⟩
abbrev main_call8_v3 : Ref sig .tc := ⟨.hbm, 235, rfl⟩
abbrev main_call8_v4 : Ref sig .tc := ⟨.hbm, 236, rfl⟩
abbrev main_call8_v5 : Ref sig .tc := ⟨.hbm, 237, rfl⟩
abbrev main_call8_c_1 : Ref sig .tc := ⟨.hbm, 238, rfl⟩
abbrev main_call8_c_2 : Ref sig .tc := ⟨.hbm, 239, rfl⟩
abbrev main_call8_v6 : Ref sig .tc := ⟨.hbm, 240, rfl⟩
abbrev main_call8_v7 : Ref sig .tc := ⟨.hbm, 241, rfl⟩
abbrev main_call8_v8 : Ref sig .tc := ⟨.hbm, 242, rfl⟩
abbrev main_call8_v9 : Ref sig .tc := ⟨.hbm, 243, rfl⟩
abbrev main_call8_v10 : Ref sig .tc := ⟨.hbm, 244, rfl⟩
abbrev main_call8_v11 : Ref sig .tc := ⟨.hbm, 245, rfl⟩
abbrev main_call8_c_3 : Ref sig .tc := ⟨.hbm, 246, rfl⟩
abbrev main_call8_v12 : Ref sig .tc := ⟨.hbm, 247, rfl⟩
abbrev main_call8_v13 : Ref sig .tc := ⟨.hbm, 248, rfl⟩
abbrev main_call8_cst : Ref sig .tc := ⟨.hbm, 249, rfl⟩
abbrev main_call8_v14 : Ref sig .tc := ⟨.hbm, 250, rfl⟩
abbrev main_v88 : Ref sig .tc := ⟨.hbm, 251, rfl⟩
abbrev main_v89 : Ref sig .tc := ⟨.hbm, 252, rfl⟩
abbrev main_c_28 : Ref sig .tc := ⟨.hbm, 253, rfl⟩
abbrev main_v90 : Ref sig .tc := ⟨.hbm, 254, rfl⟩
abbrev main_v91 : Ref sig .tc := ⟨.hbm, 255, rfl⟩
abbrev main_call9_c : Ref sig .tc := ⟨.hbm, 256, rfl⟩
abbrev main_call9_v0 : Ref sig .tc := ⟨.hbm, 257, rfl⟩
abbrev main_call9_v1 : Ref sig .tc := ⟨.hbm, 258, rfl⟩
abbrev main_call9_c_0 : Ref sig .tc := ⟨.hbm, 259, rfl⟩
abbrev main_call9_v2 : Ref sig .tc := ⟨.hbm, 260, rfl⟩
abbrev main_call9_v3 : Ref sig .tc := ⟨.hbm, 261, rfl⟩
abbrev main_call9_v4 : Ref sig .tc := ⟨.hbm, 262, rfl⟩
abbrev main_call9_v5 : Ref sig .tc := ⟨.hbm, 263, rfl⟩
abbrev main_call9_c_1 : Ref sig .tc := ⟨.hbm, 264, rfl⟩
abbrev main_call9_c_2 : Ref sig .tc := ⟨.hbm, 265, rfl⟩
abbrev main_call9_v6 : Ref sig .tc := ⟨.hbm, 266, rfl⟩
abbrev main_call9_v7 : Ref sig .tc := ⟨.hbm, 267, rfl⟩
abbrev main_call9_v8 : Ref sig .tc := ⟨.hbm, 268, rfl⟩
abbrev main_call9_v9 : Ref sig .tc := ⟨.hbm, 269, rfl⟩
abbrev main_call9_v10 : Ref sig .tc := ⟨.hbm, 270, rfl⟩
abbrev main_call9_v11 : Ref sig .tc := ⟨.hbm, 271, rfl⟩
abbrev main_call9_c_3 : Ref sig .tc := ⟨.hbm, 272, rfl⟩
abbrev main_call9_v12 : Ref sig .tc := ⟨.hbm, 273, rfl⟩
abbrev main_call9_v13 : Ref sig .tc := ⟨.hbm, 274, rfl⟩
abbrev main_call9_cst : Ref sig .tc := ⟨.hbm, 275, rfl⟩
abbrev main_call9_v14 : Ref sig .tc := ⟨.hbm, 276, rfl⟩
abbrev main_v92 : Ref sig .tc := ⟨.hbm, 277, rfl⟩
abbrev main_v93 : Ref sig .tc := ⟨.hbm, 278, rfl⟩
abbrev main_v94 : Ref sig .tc := ⟨.hbm, 279, rfl⟩
abbrev main_v95 : Ref sig .tc := ⟨.hbm, 280, rfl⟩
abbrev main_v96 : Ref sig .tc := ⟨.hbm, 281, rfl⟩
abbrev main_v97 : Ref sig .tc := ⟨.hbm, 282, rfl⟩
abbrev main_cst_29 : Ref sig .tc := ⟨.hbm, 283, rfl⟩
abbrev main_v98 : Ref sig .tc := ⟨.hbm, 284, rfl⟩
abbrev main_v99 : Ref sig .tc := ⟨.hbm, 285, rfl⟩
abbrev main_v100 : Ref sig .tc := ⟨.hbm, 286, rfl⟩
abbrev main_cst_30 : Ref sig .tc := ⟨.hbm, 287, rfl⟩
abbrev main_cst_31 : Ref sig .tc := ⟨.hbm, 288, rfl⟩
abbrev main_call10_v0 : Ref sig .tc := ⟨.hbm, 289, rfl⟩
abbrev main_call10_v1 : Ref sig .tc := ⟨.hbm, 290, rfl⟩
abbrev main_call10_v2 : Ref sig .tc := ⟨.hbm, 291, rfl⟩
abbrev main_call10_v3 : Ref sig .tc := ⟨.hbm, 292, rfl⟩
abbrev main_call10_v4 : Ref sig .tc := ⟨.hbm, 293, rfl⟩
abbrev main_v101 : Ref sig .tc := ⟨.hbm, 294, rfl⟩
abbrev main_v102 : Ref sig .tc := ⟨.hbm, 295, rfl⟩
abbrev main_v103 : Ref sig .tc := ⟨.hbm, 296, rfl⟩
abbrev main_v104 : Ref sig .tc := ⟨.hbm, 297, rfl⟩
abbrev main_cst_32 : Ref sig .tc := ⟨.hbm, 298, rfl⟩
abbrev main_v105 : Ref sig .tc := ⟨.hbm, 299, rfl⟩
abbrev main_v106 : Ref sig .tc := ⟨.hbm, 300, rfl⟩
abbrev main_v107 : Ref sig .tc := ⟨.hbm, 301, rfl⟩
abbrev main_v108 : Ref sig .tc := ⟨.hbm, 302, rfl⟩
abbrev main_v109 : Ref sig .tc := ⟨.hbm, 303, rfl⟩
abbrev main_cst_33 : Ref sig .tc := ⟨.hbm, 304, rfl⟩
abbrev main_v110 : Ref sig .tc := ⟨.hbm, 305, rfl⟩
abbrev main_v111 : Ref sig .tc := ⟨.hbm, 306, rfl⟩
abbrev main_v112 : Ref sig .tc := ⟨.hbm, 307, rfl⟩
abbrev main_v113 : Ref sig .tc := ⟨.hbm, 308, rfl⟩
abbrev main_cst_34 : Ref sig .tc := ⟨.hbm, 309, rfl⟩
abbrev main_v114 : Ref sig .tc := ⟨.hbm, 310, rfl⟩
abbrev main_v115 : Ref sig .tc := ⟨.hbm, 311, rfl⟩
abbrev main_v116 : Ref sig .tc := ⟨.hbm, 312, rfl⟩
abbrev main_v117 : Ref sig .tc := ⟨.hbm, 313, rfl⟩
abbrev main_cst_35 : Ref sig .tc := ⟨.hbm, 314, rfl⟩
abbrev main_v118 : Ref sig .tc := ⟨.hbm, 315, rfl⟩
abbrev main_v119 : Ref sig .tc := ⟨.hbm, 316, rfl⟩
abbrev main_v120 : Ref sig .tc := ⟨.hbm, 317, rfl⟩
abbrev main_v121 : Ref sig .tc := ⟨.hbm, 318, rfl⟩
abbrev main_v122 : Ref sig .tc := ⟨.hbm, 319, rfl⟩
abbrev main_v123 : Ref sig .tc := ⟨.hbm, 320, rfl⟩
abbrev main_v124 : Ref sig .tc := ⟨.hbm, 321, rfl⟩
abbrev main_cst_36 : Ref sig .tc := ⟨.hbm, 322, rfl⟩
abbrev main_v125 : Ref sig .tc := ⟨.hbm, 323, rfl⟩
abbrev main_v126 : Ref sig .tc := ⟨.hbm, 324, rfl⟩
abbrev main_v127 : Ref sig .tc := ⟨.hbm, 325, rfl⟩
abbrev main_cst_37 : Ref sig .tc := ⟨.hbm, 326, rfl⟩
abbrev main_v128 : Ref sig .tc := ⟨.hbm, 327, rfl⟩
abbrev main_v129 : Ref sig .tc := ⟨.hbm, 328, rfl⟩
abbrev main_v130 : Ref sig .tc := ⟨.hbm, 329, rfl⟩
abbrev main_v131 : Ref sig .tc := ⟨.hbm, 330, rfl⟩
abbrev main_cst_38 : Ref sig .tc := ⟨.hbm, 331, rfl⟩
abbrev main_v132 : Ref sig .tc := ⟨.hbm, 332, rfl⟩
abbrev main_v133 : Ref sig .tc := ⟨.hbm, 333, rfl⟩
abbrev main_v134 : Ref sig .tc := ⟨.hbm, 334, rfl⟩
abbrev main_v135 : Ref sig .tc := ⟨.hbm, 335, rfl⟩
abbrev main_v136 : Ref sig .tc := ⟨.hbm, 336, rfl⟩
abbrev main_v137 : Ref sig .tc := ⟨.hbm, 337, rfl⟩
abbrev main_v138 : Ref sig .tc := ⟨.hbm, 338, rfl⟩
abbrev main_v139 : Ref sig .tc := ⟨.hbm, 339, rfl⟩
abbrev main_cst_39 : Ref sig .tc := ⟨.hbm, 340, rfl⟩
abbrev main_v140 : Ref sig .tc := ⟨.hbm, 341, rfl⟩
abbrev main_v141 : Ref sig .tc := ⟨.hbm, 342, rfl⟩
abbrev main_v142 : Ref sig .tc := ⟨.hbm, 343, rfl⟩
abbrev main_v143 : Ref sig .tc := ⟨.hbm, 344, rfl⟩
abbrev main_cst_40 : Ref sig .tc := ⟨.hbm, 345, rfl⟩
abbrev main_v144 : Ref sig .tc := ⟨.hbm, 346, rfl⟩
abbrev main_v145 : Ref sig .tc := ⟨.hbm, 347, rfl⟩
abbrev main_v146 : Ref sig .tc := ⟨.hbm, 348, rfl⟩
abbrev main_v147 : Ref sig .tc := ⟨.hbm, 349, rfl⟩
abbrev main_v148 : Ref sig .tc := ⟨.hbm, 350, rfl⟩
abbrev main_cst_41 : Ref sig .tc := ⟨.hbm, 351, rfl⟩
abbrev main_v149 : Ref sig .tc := ⟨.hbm, 352, rfl⟩
abbrev main_v150 : Ref sig .tc := ⟨.hbm, 353, rfl⟩
abbrev main_v151 : Ref sig .tc := ⟨.hbm, 354, rfl⟩
abbrev main_cst_42 : Ref sig .tc := ⟨.hbm, 355, rfl⟩
abbrev main_v152 : Ref sig .tc := ⟨.hbm, 356, rfl⟩
abbrev main_v153 : Ref sig .tc := ⟨.hbm, 357, rfl⟩
abbrev main_v154 : Ref sig .tc := ⟨.hbm, 358, rfl⟩
abbrev main_v155 : Ref sig .tc := ⟨.hbm, 359, rfl⟩
abbrev main_v156 : Ref sig .tc := ⟨.hbm, 360, rfl⟩

abbrev nD : Nat := 1
abbrev τ : Topo := Topo.v7x

variable {F : FTy → Type} [FloatOps F]
-- ==== Proof.Spline.lean ====
/- The mathematics of the monotone rational-quadratic spline, over the reals and the extended reals, with no program in sight:
   the knots built from the exponentials of 64 numbers, the bin a point falls in, the slope at a knot, and the two formulas
   (value and log-derivative) inside a bin. Both programs are shown to compute these functions, row by row. -/
module

public import Idealize.ShloMosaic.PureOps.Ideal.Laws
public import Idealize.ShloMosaic.Lib.Pointwise

@[expose] public section

noncomputable section

namespace Cert.Spline

open Idealize.ShloMosaic

/-! ## Constants -/

theorem ofBits_ten : Ideal.ofBits .f32 0x41200000#32 = ((10 : ℝ) : EReal) := by
  simp [Ideal.ofBits, Ideal.ieee]
  rw [← EReal.coe_mul]
  norm_num

theorem ofBits_five : Ideal.ofBits .f32 0x40A00000#32 = ((5 : ℝ) : EReal) := by
  simp [Ideal.ofBits, Ideal.ieee]
  rw [← EReal.coe_mul]
  norm_num

theorem ofBits_neg_five : Ideal.ofBits .f32 0xC0A00000#32 = ((-5 : ℝ) : EReal) := by
  simp [Ideal.ofBits, Ideal.ieee]
  rw [← EReal.coe_mul]
  norm_num

theorem ofBits_neg_inf : Ideal.ofBits .f32 0xFF800000#32 = (⊥ : EReal) := by
  simp [Ideal.ofBits, Ideal.ieee]

theorem ofBits_inf : Ideal.ofBits .f32 0x7F800000#32 = (⊤ : EReal) := by
  simp [Ideal.ofBits, Ideal.ieee]

/-- Division of real numbers among the extended reals. -/
theorem div_real (a : ℝ) {b : ℝ} (hb : b ≠ 0) : Ideal.div (a : EReal) (b : EReal) = ((a / b : ℝ) : EReal) := by
  rw [Ideal.div_coe hb, ← EReal.coe_mul, mul_one_div]

/-! ## Knots -/

/-- The sum of the first `i` exponentials. -/
def psum (u : ℕ → ℝ) (i : ℕ) : ℝ := ∑ k ∈ Finset.range i, Real.exp (u k)

theorem psum_pos (u : ℕ → ℝ) : 0 < psum u 64 :=
  Finset.sum_pos (fun k _ => Real.exp_pos _) ⟨0, by simp⟩

/-- The width of a unit of `psum`, so that all 64 bins together span `10`. -/
def scale (u : ℕ → ℝ) : ℝ := 10 / psum u 64

theorem scale_pos (u : ℕ → ℝ) : 0 < scale u := div_pos (by norm_num) (psum_pos u)

/-- Knot number `i` of the 65 knots from `-5` to `5`. -/
def knot (u : ℕ → ℝ) (i : ℕ) : ℝ := -5 + psum u i * scale u

theorem psum_zero (u : ℕ → ℝ) : psum u 0 = 0 := by simp [psum]

theorem knot_zero (u : ℕ → ℝ) : knot u 0 = -5 := by simp [knot, psum]

theorem knot_last (u : ℕ → ℝ) : knot u 64 = 5 := by
  have := (psum_pos u).ne'
  unfold knot scale
  field_simp
  norm_num

/-- How many knots lie strictly below `v`. -/
def count (u : ℕ → ℝ) (v : EReal) : ℕ := Nat.count (fun i => (knot u i : EReal) < v) 65

theorem count_le (u : ℕ → ℝ) (v : EReal) : count u v ≤ 65 := Nat.count_le _

/-- The bin `v` falls in. -/
def bin (u : ℕ → ℝ) (v : EReal) : ℕ := min 63 (count u v - 1)

theorem bin_lt (u : ℕ → ℝ) (v : EReal) : bin u v < 64 := by unfold bin; omega

/-- Comparing a partial sum with the rescaled point is comparing the knot with the point. -/
theorem psum_lt_iff (u : ℕ → ℝ) (v : EReal) (i : ℕ) :
    ((psum u i : ℝ) : EReal) < Ideal.div (v - ((-5 : ℝ) : EReal)) ((scale u : ℝ) : EReal) ↔ ((knot u i : ℝ) : EReal) < v := by
  have hs := scale_pos u
  have hs' : ((scale u : ℝ) : EReal) ≠ 0 := by exact_mod_cast hs.ne'
  induction v with
  | bot =>
    have : Ideal.div ((⊥ : EReal) - ((-5 : ℝ) : EReal)) ((scale u : ℝ) : EReal) = ⊥ := by
      rw [Ideal.div, if_neg hs', EReal.bot_sub, ← EReal.coe_inv]
      exact EReal.bot_mul_coe_of_pos (inv_pos.2 hs)
    rw [this]
    exact ⟨fun h => absurd h not_lt_bot, fun h => absurd h not_lt_bot⟩
  | top =>
    have : Ideal.div ((⊤ : EReal) - ((-5 : ℝ) : EReal)) ((scale u : ℝ) : EReal) = ⊤ := by
      rw [Ideal.div, if_neg hs', EReal.top_sub_coe, ← EReal.coe_inv]
      exact EReal.top_mul_coe_of_pos (inv_pos.2 hs)
    rw [this]
    exact ⟨fun _ => EReal.coe_lt_top _, fun _ => EReal.coe_lt_top _⟩
  | coe r =>
    rw [Ideal.div, if_neg hs', ← EReal.coe_sub, ← EReal.coe_inv, ← EReal.coe_mul, EReal.coe_lt_coe_iff, EReal.coe_lt_coe_iff,
      ← div_eq_mul_inv, lt_div_iff₀ hs]
    unfold knot
    constructor <;> intro h <;> linarith

/-- The count, with the first knot taken apart: the other 64 compare partial sums with the rescaled point. -/
theorem count_eq (u : ℕ → ℝ) (v : EReal) :
    count u v = Nat.count (fun i => ((psum u (i + 1) : ℝ) : EReal) < Ideal.div (v - ((-5 : ℝ) : EReal)) ((scale u : ℝ) : EReal)) 64
      + (if ((-5 : ℝ) : EReal) < v then 1 else 0) := by
  unfold count
  rw [Nat.count_succ']
  simp only [psum_lt_iff, knot_zero]

/-! ## Inside a bin -/

/-- The slope at a knot, from the unconstrained number `x`: `log (1 + exp x)`, in the form that does not overflow, plus `0.001`. -/
def slope (x : EReal) : EReal :=
  (max x 0 + Ideal.log1p (Ideal.exp (-(max x (-x))))) + Ideal.ofBits .f32 0x3A83126F#32

/-- The position of `v` inside the bin `[xk, xk1]`, from `0` to `1`. -/
def pos (v xk xk1 : EReal) : EReal :=
  min 1 (max 0 (Ideal.div (v - xk) ((xk1 - xk) + Ideal.ofBits .f32 0x3089705F#32)))

/-- The mean slope of the bin. -/
def secant (xk xk1 yk yk1 : EReal) : EReal := Ideal.div (yk1 - yk) (xk1 - xk)

/-- The denominator of the rational quadratic. -/
def den (s ξ dk dk1 : EReal) : EReal :=
  s + (((dk1 + dk) - Ideal.ofBits .f32 0x40000000#32 * s) * ξ) * (1 - ξ)

/-- The spline's value. -/
def value (v xk xk1 yk yk1 dk dk1 : EReal) : EReal :=
  let ξ := pos v xk xk1
  let s := secant xk xk1 yk yk1
  yk + (yk1 - yk) * Ideal.div ((s * ξ) * ξ + (dk * ξ) * (1 - ξ)) (den s ξ dk dk1 + Ideal.ofBits .f32 0x3089705F#32)

/-- The logarithm of the spline's derivative. -/
def logDeriv (v xk xk1 yk yk1 dk dk1 : EReal) : EReal :=
  let ξ := pos v xk xk1
  let s := secant xk xk1 yk yk1
  Ideal.log ((s * s) * (((dk1 * ξ) * ξ + ((Ideal.ofBits .f32 0x40000000#32 * s) * ξ) * (1 - ξ)) + (dk * (1 - ξ)) * (1 - ξ))
      + Ideal.ofBits .f32 0x3089705F#32)
    - Ideal.log (den s ξ dk dk1 * den s ξ dk dk1 + Ideal.ofBits .f32 0x3089705F#32)

/-- The spline of the 193 numbers `p` — 64 for the widths, 64 for the heights, 65 for the slopes — at `v`. -/
def rowValue (p : ℕ → ℝ) (v : EReal) : EReal :=
  let b := bin p v
  value v (knot p b : ℝ) (knot p (b + 1) : ℝ) (knot (fun i => p (64 + i)) b : ℝ) (knot (fun i => p (64 + i)) (b + 1) : ℝ)
    (slope (p (128 + b) : ℝ)) (slope (p (128 + (b + 1)) : ℝ))

/-- Its log-derivative there. -/
def rowLogDeriv (p : ℕ → ℝ) (v : EReal) : EReal :=
  let b := bin p v
  logDeriv v (knot p b : ℝ) (knot p (b + 1) : ℝ) (knot (fun i => p (64 + i)) b : ℝ) (knot (fun i => p (64 + i)) (b + 1) : ℝ)
    (slope (p (128 + b) : ℝ)) (slope (p (128 + (b + 1)) : ℝ))

/-! ## The small network -/

/-- A hidden unit: the positive part of a 16-term product. -/
def hiddenUnit (x : Fin 16 → ℝ) (w : Fin 16 → Fin 64 → ℝ) (k : Fin 64) : ℝ := max (∑ c, x c * w c k) 0

/-- The 193 numbers of a row; past the last of them, zero. -/
def params (x : Fin 16 → ℝ) (w : Fin 16 → Fin 64 → ℝ) (w2 : Fin 64 → Fin 193 → ℝ) (j : ℕ) : ℝ :=
  if hj : j < 193 then ∑ k, hiddenUnit x w k * w2 k ⟨j, hj⟩ else 0

/-! ## Sums of real numbers among the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum over a prefix, written as a sum over all with a triangle of ones and zeros. -/
theorem sum_prefix {n : ℕ} (f : ℕ → ℝ) (i : ℕ) (hi : i < n) :
    ∑ k : Fin n, (if k.val ≤ i then (1 : ℝ) else 0) * f k.val = ∑ k ∈ Finset.range (i + 1), f k := by
  rw [Fin.sum_univ_eq_sum_range (fun k => (if k ≤ i then (1 : ℝ) else 0) * f k) n]
  simp only [ite_mul, one_mul, zero_mul]
  rw [← Finset.sum_filter]
  refine Finset.sum_congr ?_ fun _ _ => rfl
  ext k; simp only [Finset.mem_filter, Finset.mem_range]; omega

/-- A row of real numbers times a row that is one in one place and zero elsewhere sums to the number there. -/
theorem sum_pick {n : ℕ} (f : ℕ → ℝ) (b : ℕ) (hb : b < n) :
    ∑ k : Fin n, ((f k.val : ℝ) : EReal) * (if k.val = b then (1 : EReal) else 0) = ((f b : ℝ) : EReal) := by
  simp only [mul_ite, mul_one, mul_zero]
  rw [Fin.sum_univ_eq_sum_range (fun k => if k = b then ((f k : ℝ) : EReal) else 0) n, Finset.sum_ite_eq' , if_pos (by simpa using hb)]

/-- Prefix sums picked one place early: below the first place nothing is picked, and the empty prefix sum is zero. -/
theorem sum_pick_before (u : ℕ → ℝ) (b : ℕ) (hb : b < 64) :
    ∑ k : Fin 64, ((psum u (k.val + 1) : ℝ) : EReal) * (if k.val + 1 = b then (1 : EReal) else 0) = ((psum u b : ℝ) : EReal) := by
  cases b with
  | zero =>
    rw [psum_zero, EReal.coe_zero]
    exact Finset.sum_eq_zero fun k _ => by rw [if_neg (by omega), mul_zero]
  | succ b =>
    simp only [Nat.add_right_cancel_iff]
    exact sum_pick (fun k => psum u (k + 1)) b (by omega)

end Cert.Spline
-- ==== Proof.KernelRow.lean ====
/- What the kernel's body computes for one column of a block, that is for one sample: the 200 numbers of the small network, the
   prefix sums of their exponentials, the bin, the knots and slopes at its two ends, and from them the spline of `Proof.Spline`.
   Each fact reads one stored or intermediate value at column `q` from the values before it at the same column. -/
module

public import proofs.«01_k».proof.Proof.Gen.KernelIdeal.Skeleton
public import proofs.«01_k».proof.Proof.Spline
public import Idealize.ShloMosaic.Lib.Pointwise
public import Idealize.ShloMosaic.Lib.Routing.OpsSearch
public import Idealize.ShloMosaic.Lib.IndicatorCount

@[expose] public section

set_option maxRecDepth 16384

noncomputable section

namespace Cert.KernelIdeal.Row

open Idealize.ShloMosaic Idealize.ShloMosaic.TcCoe Idealize.SL.Sem
open Cert.KernelIdeal Cert.KernelIdeal.Gen Cert.Spline

/-! ## Words -/

/-- A truth value widened to a word and read as a number is one or zero. -/
theorem number_of_bit (d : Bool) :
    (FloatOps.sitofp .f32 (BitVec.setWidth 32 (BitVec.ofBool d)) : Ideal .f32) = if d then (1 : EReal) else 0 := by
  show (((BitVec.setWidth 32 (BitVec.ofBool d)).toInt : ℝ) : EReal) = _
  cases d <;> simp

theorem word_le : ∀ i k : Fin 64, IntOp.cmpi .sle (BitVec.ofNat 32 k.val) (BitVec.ofNat 32 i.val) = BitVec.ofBool (decide (k.val ≤ i.val)) := by
  decide +kernel

theorem word_eq : ∀ k b : Fin 64, IntOp.cmpi .eq (BitVec.ofNat 32 k.val) (BitVec.ofNat 32 b.val) = BitVec.ofBool (decide (k.val = b.val)) := by
  decide +kernel

/-- Being one below the bin; below bin zero there is nothing. -/
theorem word_pred : ∀ k b : Fin 64, IntOp.cmpi .eq (BitVec.ofNat 32 k.val) (IntOp.subi (BitVec.ofNat 32 b.val) 1#32)
    = BitVec.ofBool (decide (k.val + 1 = b.val)) := by
  decide +kernel

theorem word_succ : ∀ (k : Fin 72) (b : Fin 64), IntOp.cmpi .eq (BitVec.ofNat 32 k.val) (IntOp.addi (BitVec.ofNat 32 b.val) 1#32)
    = BitVec.ofBool (decide (k.val = b.val + 1)) := by
  decide +kernel

/-- From the number of knots below the point to the bin, on words. -/
theorem word_bin : ∀ n : Fin 66, IntOp.minsi 63#32 (IntOp.maxsi 0#32 (IntOp.subi (BitVec.ofNat 32 n.val) 1#32))
    = BitVec.ofNat 32 (min 63 (n.val - 1)) := by
  decide +kernel

theorem word_last : ∀ b : Fin 64, IntOp.cmpi .eq (BitVec.ofNat 32 b.val) 63#32 = BitVec.ofBool (decide (b.val = 63)) := by
  decide +kernel

theorem word_first : ∀ b : Fin 64, IntOp.cmpi .eq (BitVec.ofNat 32 b.val) 0#32 = BitVec.ofBool (decide (b.val = 0)) := by
  decide +kernel

theorem select_bit {α : Type} (P : Prop) [Decidable P] (a b : α) : Scalar.select (BitVec.ofBool (decide P)) a b = if P then a else b := by
  by_cases h : P <;> simp [h, Scalar.select]

theorem bit_iff (P : Prop) [Decidable P] : BitVec.ofBool (decide P) = 1#1 ↔ P := by
  by_cases h : P <;> simp [h]

theorem word_of_bit (P : Prop) [Decidable P] : BitVec.setWidth 32 (BitVec.ofBool (decide P)) = BitVec.ofNat 32 (if P then 1 else 0) := by
  by_cases h : P <;> simp [h]

/-! ## The network -/

/-- The 200 numbers of a column, from real operands. -/
theorem params_at (x1 : FVec Ideal S16384x16 .f32) (x2 : FVec Ideal S64x16 .bf16) (x3 : FVec Ideal S200x64 .bf16) (q : Fin 16384)
    (x : Fin 16 → ℝ) (w : Fin 16 → Fin 64 → ℝ) (w2 : Fin 64 → Fin 193 → ℝ)
    (hx : ∀ c, x1 (ix2 q c) = ((x c : ℝ) : EReal)) (hw : ∀ k c, x2 (ix2 k c) = ((w c k : ℝ) : EReal))
    (hw2 : ∀ r k, x3 (ix2 r k) = ((if hr : r.val < 193 then w2 k ⟨r.val, hr⟩ else 0 : ℝ) : EReal)) (r : Fin 200) :
    k0_pay4 (F := Ideal) x1 x2 x3 (ix2 r q) = ((params x w w2 r.val : ℝ) : EReal) := by
  pointwise [k0_pay4, hx, hw, hw2]
  have hh : ∀ k : Fin 64, max (∑ c, ((w c k : ℝ) : EReal) * ((x c : ℝ) : EReal)) 0 = ((hiddenUnit x w k : ℝ) : EReal) := fun k => by
    simp only [hiddenUnit, ← EReal.coe_mul, ← coe_sum]
    rw [EReal.coe_strictMono.monotone.map_max, EReal.coe_zero]
    simp only [mul_comm]
  simp only [hh]
  simp only [← EReal.coe_mul, ← coe_sum]
  refine congrArg _ ?_
  unfold params
  by_cases hr : r.val < 193
  · simp only [dif_pos hr, mul_comm]
  · simp only [dif_neg hr, zero_mul, Finset.sum_const_zero]

/-! ## Prefix sums -/

theorem tri_at (i k : Fin 64) : k0_pay6 (F := Ideal) (ix2 i k) = if k.val ≤ i.val then (1 : EReal) else 0 := by
  pointwise [k0_pay6]
  rw [word_le, number_of_bit]
  simp only [decide_eq_true_eq]

/-- A triangle of ones and zeros times a real column, plus the same triangle times zeros, is the column's prefix sum. -/
theorem tri_sum (u : ℕ → ℝ) (i : Fin 64) :
    ∑ k : Fin 64, k0_pay6 (F := Ideal) (ix2 i k) * ((Real.exp (u k.val) : ℝ) : EReal)
      + ∑ k : Fin 64, k0_pay6 (F := Ideal) (ix2 i k) * (((Real.exp (u k.val) : ℝ) : EReal) - ((Real.exp (u k.val) : ℝ) : EReal))
      = ((psum u (i.val + 1) : ℝ) : EReal) := by
  have hz : ∀ r : ℝ, ((r : ℝ) : EReal) - (r : EReal) = 0 := fun r => by rw [← EReal.coe_sub, sub_self, EReal.coe_zero]
  simp only [hz, mul_zero, Finset.sum_const_zero, add_zero, tri_at]
  unfold psum
  rw [← sum_prefix (n := 64) (fun k => Real.exp (u k)) i.val i.isLt, coe_sum]
  refine Finset.sum_congr rfl fun k _ => ?_
  by_cases h : k.val ≤ i.val
  · simp only [if_pos h, one_mul]
  · simp only [if_neg h, zero_mul, EReal.coe_zero]

section Column

variable (x1 : FVec Ideal S16384x16 .f32) (x2 : FVec Ideal S64x16 .bf16) (x3 : FVec Ideal S200x64 .bf16) (q : Fin 16384) (p : ℕ → ℝ)
  (hp : ∀ r : Fin 200, k0_pay4 (F := Ideal) x1 x2 x3 (ix2 r q) = ((p r.val : ℝ) : EReal))
include hp

theorem slopes_at (r : Fin 72) : k0_pay5 (F := Ideal) x1 x2 x3 (ix2 r q) = ((p (128 + r.val) : ℝ) : EReal) := by
  pointwise [k0_pay5, hp]

theorem widthSum_at (i : Fin 64) : k0_pay7 (F := Ideal) x1 x2 x3 (ix2 i q) = ((psum p (i.val + 1) : ℝ) : EReal) := by
  pointwise [k0_pay7, hp]
  exact tri_sum p i

theorem heightSum_at (i : Fin 64) : k0_pay8 (F := Ideal) x1 x2 x3 (ix2 i q) = ((psum (fun j => p (64 + j)) (i.val + 1) : ℝ) : EReal) := by
  pointwise [k0_pay8, hp]
  exact tri_sum (fun j => p (64 + j)) i

theorem widthScale_at : k0_pay9 (F := Ideal) x1 x2 x3 (ix2 0 q) = ((scale p : ℝ) : EReal) := by
  pointwise [k0_pay9, widthSum_at x1 x2 x3 q p hp]
  rw [ofBits_ten]
  exact div_real _ (psum_pos _).ne'

theorem heightScale_at : k0_pay11 (F := Ideal) (k0_pay10 x1 x2 x3) (ix2 0 q) = ((scale (fun j => p (64 + j)) : ℝ) : EReal) := by
  pointwise [k0_pay11, k0_pay10, heightSum_at x1 x2 x3 q p hp]
  rw [ofBits_ten]
  exact div_real _ (psum_pos _).ne'

end Column

/-! ## The bin, and what is picked with it -/

section Pick

variable (v1 : FVec Ideal S1x16384 .f32) (v30 v37 : FVec Ideal S64x16384 .f32) (v40 v43 : FVec Ideal S1x16384 .f32)
  (v15 : FVec Ideal S72x16384 .f32) (q : Fin 16384) (p h d : ℕ → ℝ) (v : EReal)
  (h1 : v1 (ix2 0 q) = v)
  (h30 : ∀ i : Fin 64, v30 (ix2 i q) = ((psum p (i.val + 1) : ℝ) : EReal))
  (h40 : v40 (ix2 0 q) = ((scale p : ℝ) : EReal))
  (h37 : ∀ i : Fin 64, v37 (ix2 i q) = ((psum h (i.val + 1) : ℝ) : EReal))
  (h43 : v43 (ix2 0 q) = ((scale h : ℝ) : EReal))
  (h15 : ∀ r : Fin 72, v15 (ix2 r q) = ((d r.val : ℝ) : EReal))
include h1 h30 h40

theorem bin_at : k0_pay12 (F := Ideal) v1 v30 v40 (ix2 0 q) = BitVec.ofNat 32 (bin p v) := by
  pointwise [k0_pay12, h1, h30, h40]
  rw [IndicatorCount.fold_addi_setWidth_eq_card, ofBits_neg_five]
  have hc : (Finset.univ.filter fun k : Fin 64 => BitVec.ofBool (decide (((psum p (k.val + 1) : ℝ) : EReal)
      < Ideal.div (v - ((-5 : ℝ) : EReal)) ((scale p : ℝ) : EReal))) = 1#1).card
      = Nat.count (fun i => ((psum p (i + 1) : ℝ) : EReal) < Ideal.div (v - ((-5 : ℝ) : EReal)) ((scale p : ℝ) : EReal)) 64 := by
    rw [← Routing.card_filter_fin]
    exact congrArg Finset.card (Finset.filter_congr fun k _ => bit_iff _)
  have hb : BitVec.setWidth 32 (BitVec.ofBool (decide (((-5 : ℝ) : EReal) < v))) = BitVec.ofNat 32 (if ((-5 : ℝ) : EReal) < v then 1 else 0) :=
    word_of_bit _
  rw [hc, hb, IntOp.addi, ← BitVec.ofNat_add, ← count_eq]
  exact word_bin ⟨count p v, by have := count_le p v; omega⟩

theorem isLast_at : k0_pay19 (F := Ideal) v1 v30 v40 (ix2 0 q) = BitVec.ofBool (decide (bin p v = 63)) := by
  pointwise [k0_pay19, bin_at v1 v30 v40 q p v h1 h30 h40]
  exact word_last ⟨bin p v, bin_lt p v⟩

theorem here_at (i : Fin 64) : k0_pay13 (F := Ideal) v1 v30 v40 (ix2 i q) = if i.val = bin p v then (1 : EReal) else 0 := by
  pointwise [k0_pay13, bin_at v1 v30 v40 q p v h1 h30 h40]
  rw [word_eq i ⟨bin p v, bin_lt p v⟩, number_of_bit]
  simp only [decide_eq_true_eq]

theorem before_at (i : Fin 64) : k0_pay14 (F := Ideal) v1 v30 v40 (ix2 i q) = if i.val + 1 = bin p v then (1 : EReal) else 0 := by
  pointwise [k0_pay14, bin_at v1 v30 v40 q p v h1 h30 h40]
  rw [word_pred i ⟨bin p v, bin_lt p v⟩, number_of_bit]
  simp only [decide_eq_true_eq]

theorem widthHere_at : k0_pay15 (F := Ideal) v1 v30 v40 (ix2 0 q) = ((psum p (bin p v + 1) : ℝ) : EReal) := by
  pointwise [k0_pay15, h30, here_at v1 v30 v40 q p v h1 h30 h40]
  exact sum_pick (fun k => psum p (k + 1)) _ (bin_lt p v)

theorem widthBefore_at : k0_pay17 (F := Ideal) v1 v30 v40 (ix2 0 q) = ((psum p (bin p v) : ℝ) : EReal) := by
  pointwise [k0_pay17, h30, before_at v1 v30 v40 q p v h1 h30 h40]
  exact sum_pick_before p _ (bin_lt p v)

include h37

theorem heightHere_at : k0_pay16 (F := Ideal) v1 v30 v37 v40 (ix2 0 q) = ((psum h (bin p v + 1) : ℝ) : EReal) := by
  pointwise [k0_pay16, h37, here_at v1 v30 v40 q p v h1 h30 h40]
  exact sum_pick (fun k => psum h (k + 1)) _ (bin_lt p v)

theorem heightBefore_at : k0_pay18 (F := Ideal) v1 v30 v37 v40 (ix2 0 q) = ((psum h (bin p v) : ℝ) : EReal) := by
  pointwise [k0_pay18, h37, before_at v1 v30 v40 q p v h1 h30 h40]
  exact sum_pick_before h _ (bin_lt p v)

end Pick

/-! ## The knots and slopes at the ends of the bin -/

theorem upperX_at (v40 v77 : FVec Ideal S1x16384 .f32) (v88 : IVec S1x16384 1) (q : Fin 16384) (p : ℕ → ℝ) (b : ℕ)
    (h40 : v40 (ix2 0 q) = ((scale p : ℝ) : EReal)) (h77 : v77 (ix2 0 q) = ((psum p (b + 1) : ℝ) : EReal))
    (h88 : v88 (ix2 0 q) = BitVec.ofBool (decide (b = 63))) :
    k0_pay20 (F := Ideal) v40 v77 v88 (ix2 0 q) = ((knot p (b + 1) : ℝ) : EReal) := by
  pointwise [k0_pay20, h40, h77, h88]
  rw [ofBits_five, ofBits_neg_five]
  by_cases hb : b = 63
  · rw [if_pos hb, hb, knot_last]
  · rw [if_neg hb, ← EReal.coe_mul, ← EReal.coe_add, knot]

theorem upperY_at (v43 v80 : FVec Ideal S1x16384 .f32) (v88 : IVec S1x16384 1) (q : Fin 16384) (p : ℕ → ℝ) (b : ℕ)
    (h43 : v43 (ix2 0 q) = ((scale p : ℝ) : EReal)) (h80 : v80 (ix2 0 q) = ((psum p (b + 1) : ℝ) : EReal))
    (h88 : v88 (ix2 0 q) = BitVec.ofBool (decide (b = 63))) :
    k0_pay21 (F := Ideal) v43 v80 v88 (ix2 0 q) = ((knot p (b + 1) : ℝ) : EReal) :=
  upperX_at v43 v80 v88 q p b h43 h80 h88

theorem lowerX_at (v40 v83 : FVec Ideal S1x16384 .f32) (v62 : IVec S1x16384 32) (q : Fin 16384) (p : ℕ → ℝ) (b : ℕ) (hb : b < 64)
    (h40 : v40 (ix2 0 q) = ((scale p : ℝ) : EReal)) (h83 : v83 (ix2 0 q) = ((psum p b : ℝ) : EReal))
    (h62 : v62 (ix2 0 q) = BitVec.ofNat 32 b) :
    k0_pay23 (F := Ideal) v40 v62 v83 (ix2 0 q) = ((knot p b : ℝ) : EReal) := by
  pointwise [k0_pay23, k0_pay22, h40, h83, h62]
  rw [word_first ⟨b, hb⟩, select_bit, ofBits_neg_five]
  by_cases h0 : b = 0
  · rw [if_pos h0, h0, knot_zero]
  · rw [if_neg h0, ← EReal.coe_mul, ← EReal.coe_add, knot]

theorem lowerY_at (v43 v86 : FVec Ideal S1x16384 .f32) (v62 : IVec S1x16384 32) (q : Fin 16384) (p : ℕ → ℝ) (b : ℕ) (hb : b < 64)
    (h43 : v43 (ix2 0 q) = ((scale p : ℝ) : EReal)) (h86 : v86 (ix2 0 q) = ((psum p b : ℝ) : EReal))
    (h62 : v62 (ix2 0 q) = BitVec.ofNat 32 b) :
    k0_pay24 (F := Ideal) v43 v62 v86 (ix2 0 q) = ((knot p b : ℝ) : EReal) :=
  lowerX_at v43 v86 v62 q p b hb h43 h86 h62

section Slope

variable (v15 : FVec Ideal S72x16384 .f32) (v67 : FVec Ideal S64x16384 .f32) (v62 : IVec S1x16384 32) (q : Fin 16384) (d : ℕ → ℝ) (b : ℕ) (hb : b < 64)
  (h15 : ∀ r : Fin 72, v15 (ix2 r q) = ((d r.val : ℝ) : EReal))
include hb h15

theorem rawLower_at (h67 : ∀ i : Fin 64, v67 (ix2 i q) = if i.val = b then (1 : EReal) else 0) :
    k0_pay25 (F := Ideal) v15 v67 (ix2 0 q) = ((d b : ℝ) : EReal) := by
  pointwise [k0_pay25, h15, h67]
  exact sum_pick d b hb

theorem rawUpper_at (h62 : v62 (ix2 0 q) = BitVec.ofNat 32 b) :
    k0_pay26 (F := Ideal) v15 v62 (ix2 0 q) = ((d (b + 1) : ℝ) : EReal) := by
  pointwise [k0_pay26, h15, h62]
  simp only [word_succ _ ⟨b, hb⟩, number_of_bit, decide_eq_true_eq]
  exact sum_pick d (b + 1) (by omega)

theorem lowerSlope_at (v134 : FVec Ideal S1x16384 .f32) (h134 : v134 = k0_pay32 (F := Ideal))
    (h67 : ∀ i : Fin 64, v67 (ix2 i q) = if i.val = b then (1 : EReal) else 0) :
    k0_pay33 (F := Ideal) (k0_pay27 v15 v67) (k0_pay29 v15 v67) (k0_pay30 v15 v67) (k0_pay31 v15 v67) v134 (ix2 0 q)
      = slope ((d b : ℝ) : EReal) := by
  subst h134
  pointwise [k0_pay33, k0_pay27, k0_pay28, k0_pay29, k0_pay30, k0_pay31, k0_pay32, rawLower_at v15 v67 q d b hb h15 h67]
  rw [if_neg (fun h => h rfl), zero_sub]
  rfl

omit hb h15 in
theorem upperSlope_at (v125 : FVec Ideal S1x16384 .f32) (x : EReal) (h125 : v125 (ix2 0 q) = x) :
    k0_pay34 (F := Ideal) v125 (ix2 0 q) = slope x := by
  pointwise [k0_pay34, h125]
  rw [if_neg (fun h => h rfl), zero_sub]
  rfl

end Slope

/-! ## The two results -/

section Result

variable (v1 v93 v98 v105 v110 v125 v127 v132 v133 v134 : FVec Ideal S1x16384 .f32) (v130 : IVec S1x16384 1) (q : Fin 16384)
  (v xk xk1 yk yk1 dk dk1 : EReal)
  (h1 : v1 (ix2 0 q) = v) (h93 : v93 (ix2 0 q) = xk1) (h98 : v98 (ix2 0 q) = yk1) (h105 : v105 (ix2 0 q) = xk) (h110 : v110 (ix2 0 q) = yk)
  (h157 : k0_pay34 (F := Ideal) v125 (ix2 0 q) = dk1) (h141 : k0_pay33 (F := Ideal) v127 v130 v132 v133 v134 (ix2 0 q) = dk)
include h1 h93 h98 h105 h110 h157 h141

theorem value_at : k0_pay1 (F := Ideal) v110 (k0_pay36 v98 v110) (k0_pay40 v1 v93 v98 v105 v110 v127 v130 v132 v133 v134)
    (k0_pay42 v1 v93 v98 v105 v110 v125 v127 v130 v132 v133 v134) (ix3 0 0 q) = value v xk xk1 yk yk1 dk dk1 := by
  pointwise [k0_pay1, k0_pay36, k0_pay40, k0_pay42, k0_pay41, k0_pay37, k0_pay35, k0_pay38, k0_pay39, h1, h93, h98, h105, h110, h157, h141]
  rfl

theorem logDeriv_at : k0_pay2 (F := Ideal) (k0_pay33 v127 v130 v132 v133 v134) (k0_pay34 v125) (k0_pay37 v93 v98 v105 v110) (k0_pay38 v1 v93 v105)
    (k0_pay39 v1 v93 v105) (k0_pay41 v1 v93 v98 v105 v110 v125 v127 v130 v132 v133 v134) (ix3 0 0 q) = logDeriv v xk xk1 yk yk1 dk dk1 := by
  pointwise [k0_pay2, k0_pay36, k0_pay41, k0_pay37, k0_pay35, k0_pay38, k0_pay39, h1, h93, h98, h105, h110, h157, h141]
  rfl

end Result
end Cert.KernelIdeal.Row
-- ==== Proof.KernelColumn.lean ====
/- One column of a block through the whole body: the two stored values at column `q` are the spline of the sample's 193 numbers
   at the sample's input, and the logarithm of its derivative there. -/
module

public import proofs.«01_k».proof.Proof.Gen.KernelIdeal.Frame
public import proofs.«01_k».proof.Proof.KernelRow
public import Idealize.ShloMosaic.Lib.Pipeline.ValueKit

@[expose] public section

set_option maxRecDepth 16384

noncomputable section

namespace Cert.KernelIdeal.Row

open Idealize.ShloMosaic Idealize.ShloMosaic.TcCoe Idealize.SL.Sem
open Cert.KernelIdeal Cert.KernelIdeal.Gen Cert.Spline

variable (x0 : FVec Ideal S1x1x16384 .f32) (x1 : FVec Ideal S16384x16 .f32) (x2 : FVec Ideal S64x16 .bf16) (x3 : FVec Ideal S200x64 .bf16)
  (q : Fin 16384) (v : EReal) (x : Fin 16 → ℝ) (w : Fin 16 → Fin 64 → ℝ) (w2 : Fin 64 → Fin 193 → ℝ)
  (h0 : x0 (ix3 0 0 q) = v)
  (hx : ∀ c, x1 (ix2 q c) = ((x c : ℝ) : EReal)) (hw : ∀ k c, x2 (ix2 k c) = ((w c k : ℝ) : EReal))
  (hw2 : ∀ r k, x3 (ix2 r k) = ((if hr : r.val < 193 then w2 k ⟨r.val, hr⟩ else 0 : ℝ) : EReal))

/-! ## The body's named values at the column -/

theorem whole3 : (![0, 0, 0] : Fin 3 → ℕ) = fun _ => 0 := by decide

theorem whole2 : (![0, 0] : Fin 2 → ℕ) = fun _ => 0 := by decide

theorem load0 (X : Vec Ideal S1x1x16384 .f32) : View.ld X r0_0 = X := View.ld_unit_zero (S := S1x1x16384) whole3 _ X
theorem load1 (X : Vec Ideal S16384x16 .f32) : View.ld X r0_1 = X := View.ld_unit_zero (S := S16384x16) whole2 _ X
theorem load2 (X : Vec Ideal S64x16 .bf16) : View.ld X r0_2 = X := View.ld_unit_zero (S := S64x16) whole2 _ X
theorem load3 (X : Vec Ideal S200x64 .bf16) : View.ld X r0_3 = X := View.ld_unit_zero (S := S200x64) whole2 _ X

include h0 in
theorem point_at : k0_pay43 (F := Ideal) x0 x1 x2 x3 (ix2 0 q) = v := by
  rw [k0_pay43, load0]
  pointwise [k0_pay3, h0]

include hx hw hw2

theorem pay44_at (r : Fin 72) : k0_pay44 (F := Ideal) x0 x1 x2 x3 (ix2 r q) = ((params x w w2 (128 + r.val) : ℝ) : EReal) := by
  rw [k0_pay44, load1, load2, load3]
  exact slopes_at x1 x2 x3 q _ (params_at x1 x2 x3 q x w w2 hx hw hw2) r

theorem pay45_at (i : Fin 64) : k0_pay45 (F := Ideal) x0 x1 x2 x3 (ix2 i q) = ((psum (params x w w2) (i.val + 1) : ℝ) : EReal) := by
  rw [k0_pay45, load1, load2, load3]
  exact widthSum_at x1 x2 x3 q _ (params_at x1 x2 x3 q x w w2 hx hw hw2) i

theorem pay46_at (i : Fin 64) :
    k0_pay46 (F := Ideal) x0 x1 x2 x3 (ix2 i q) = ((psum (fun j => params x w w2 (64 + j)) (i.val + 1) : ℝ) : EReal) := by
  rw [k0_pay46, load1, load2, load3]
  exact heightSum_at x1 x2 x3 q _ (params_at x1 x2 x3 q x w w2 hx hw hw2) i

theorem pay47_at : k0_pay47 (F := Ideal) x0 x1 x2 x3 (ix2 0 q) = ((scale (params x w w2) : ℝ) : EReal) := by
  rw [k0_pay47, load1, load2, load3]
  exact widthScale_at x1 x2 x3 q _ (params_at x1 x2 x3 q x w w2 hx hw hw2)

theorem pay48_at : k0_pay48 (F := Ideal) x0 x1 x2 x3 (ix2 0 q) = ((scale (fun j => params x w w2 (64 + j)) : ℝ) : EReal) := by
  rw [k0_pay48, load1, load2, load3]
  exact heightScale_at x1 x2 x3 q _ (params_at x1 x2 x3 q x w w2 hx hw hw2)

include h0

theorem pay49_at : k0_pay49 (F := Ideal) x0 x1 x2 x3 (ix2 0 q) = BitVec.ofNat 32 (bin (params x w w2) v) :=
  bin_at _ _ _ q _ v (point_at x0 x1 x2 x3 q v h0) (pay45_at x0 x1 x2 x3 q x w w2 hx hw hw2) (pay47_at x0 x1 x2 x3 q x w w2 hx hw hw2)

theorem pay50_at (i : Fin 64) : k0_pay50 (F := Ideal) x0 x1 x2 x3 (ix2 i q) = if i.val = bin (params x w w2) v then (1 : EReal) else 0 :=
  here_at _ _ _ q _ v (point_at x0 x1 x2 x3 q v h0) (pay45_at x0 x1 x2 x3 q x w w2 hx hw hw2) (pay47_at x0 x1 x2 x3 q x w w2 hx hw hw2) i

theorem pay51_at : k0_pay51 (F := Ideal) x0 x1 x2 x3 (ix2 0 q) = BitVec.ofBool (decide (bin (params x w w2) v = 63)) :=
  isLast_at _ _ _ q _ v (point_at x0 x1 x2 x3 q v h0) (pay45_at x0 x1 x2 x3 q x w w2 hx hw hw2) (pay47_at x0 x1 x2 x3 q x w w2 hx hw hw2)

theorem pay52_at : k0_pay52 (F := Ideal) x0 x1 x2 x3 (ix2 0 q) = ((knot (params x w w2) (bin (params x w w2) v + 1) : ℝ) : EReal) :=
  upperX_at _ _ _ q _ _ (pay47_at x0 x1 x2 x3 q x w w2 hx hw hw2)
    (widthHere_at _ _ _ q _ v (point_at x0 x1 x2 x3 q v h0) (pay45_at x0 x1 x2 x3 q x w w2 hx hw hw2) (pay47_at x0 x1 x2 x3 q x w w2 hx hw hw2))
    (pay51_at x0 x1 x2 x3 q v x w w2 h0 hx hw hw2)

theorem pay53_at : k0_pay53 (F := Ideal) x0 x1 x2 x3 (ix2 0 q)
    = ((knot (fun j => params x w w2 (64 + j)) (bin (params x w w2) v + 1) : ℝ) : EReal) :=
  upperY_at _ _ _ q _ _ (pay48_at x0 x1 x2 x3 q x w w2 hx hw hw2)
    (heightHere_at _ _ _ _ q _ _ v (point_at x0 x1 x2 x3 q v h0) (pay45_at x0 x1 x2 x3 q x w w2 hx hw hw2)
      (pay47_at x0 x1 x2 x3 q x w w2 hx hw hw2) (pay46_at x0 x1 x2 x3 q x w w2 hx hw hw2))
    (pay51_at x0 x1 x2 x3 q v x w w2 h0 hx hw hw2)

theorem pay54_at : k0_pay54 (F := Ideal) x0 x1 x2 x3 (ix2 0 q) = ((knot (params x w w2) (bin (params x w w2) v) : ℝ) : EReal) :=
  lowerX_at _ _ _ q _ _ (bin_lt _ _) (pay47_at x0 x1 x2 x3 q x w w2 hx hw hw2)
    (widthBefore_at _ _ _ q _ v (point_at x0 x1 x2 x3 q v h0) (pay45_at x0 x1 x2 x3 q x w w2 hx hw hw2) (pay47_at x0 x1 x2 x3 q x w w2 hx hw hw2))
    (pay49_at x0 x1 x2 x3 q v x w w2 h0 hx hw hw2)

theorem pay55_at : k0_pay55 (F := Ideal) x0 x1 x2 x3 (ix2 0 q)
    = ((knot (fun j => params x w w2 (64 + j)) (bin (params x w w2) v) : ℝ) : EReal) :=
  lowerY_at _ _ _ q _ _ (bin_lt _ _) (pay48_at x0 x1 x2 x3 q x w w2 hx hw hw2)
    (heightBefore_at _ _ _ _ q _ _ v (point_at x0 x1 x2 x3 q v h0) (pay45_at x0 x1 x2 x3 q x w w2 hx hw hw2)
      (pay47_at x0 x1 x2 x3 q x w w2 hx hw hw2) (pay46_at x0 x1 x2 x3 q x w w2 hx hw hw2))
    (pay49_at x0 x1 x2 x3 q v x w w2 h0 hx hw hw2)

theorem upper_at : k0_pay34 (F := Ideal) (k0_pay56 x0 x1 x2 x3) (ix2 0 q)
    = Spline.slope ((params x w w2 (128 + (bin (params x w w2) v + 1)) : ℝ) : EReal) :=
  upperSlope_at q _ _ (rawUpper_at _ _ q (fun j => params x w w2 (128 + j)) _ (bin_lt _ _) (pay44_at x0 x1 x2 x3 q x w w2 hx hw hw2)
    (pay49_at x0 x1 x2 x3 q v x w w2 h0 hx hw hw2))

theorem lower_at : k0_pay33 (F := Ideal) (k0_pay57 x0 x1 x2 x3) (k0_pay58 (F := Ideal) x0 x1 x2 x3) (k0_pay59 x0 x1 x2 x3) (k0_pay60 x0 x1 x2 x3)
    (k0_pay61 x0 x1 x2 x3) (ix2 0 q) = Spline.slope ((params x w w2 (128 + bin (params x w w2) v) : ℝ) : EReal) := by
  rw [k0_pay57, k0_pay58, k0_pay59, k0_pay60, k0_pay61]
  exact lowerSlope_at _ _ q (fun j => params x w w2 (128 + j)) _ (bin_lt _ _) (pay44_at x0 x1 x2 x3 q x w w2 hx hw hw2) _ rfl
    (pay50_at x0 x1 x2 x3 q v x w w2 h0 hx hw hw2)

/-! ## The two stored values -/

theorem out_value_at : out0_4 (F := Ideal) x0 x1 x2 x3 (ix3 0 0 q) = rowValue (params x w w2) v := by
  frame_out
  exact value_at _ _ _ _ _ _ _ _ _ _ _ q v _ _ _ _ _ _ (point_at x0 x1 x2 x3 q v h0) (pay52_at x0 x1 x2 x3 q v x w w2 h0 hx hw hw2)
    (pay53_at x0 x1 x2 x3 q v x w w2 h0 hx hw hw2) (pay54_at x0 x1 x2 x3 q v x w w2 h0 hx hw hw2)
    (pay55_at x0 x1 x2 x3 q v x w w2 h0 hx hw hw2) (upper_at x0 x1 x2 x3 q v x w w2 h0 hx hw hw2)
    (lower_at x0 x1 x2 x3 q v x w w2 h0 hx hw hw2)

theorem out_logDeriv_at : out0_5 (F := Ideal) x0 x1 x2 x3 (ix3 0 0 q) = rowLogDeriv (params x w w2) v := by
  frame_out
  exact logDeriv_at _ _ _ _ _ _ _ _ _ _ _ q v _ _ _ _ _ _ (point_at x0 x1 x2 x3 q v h0) (pay52_at x0 x1 x2 x3 q v x w w2 h0 hx hw hw2)
    (pay53_at x0 x1 x2 x3 q v x w w2 h0 hx hw hw2) (pay54_at x0 x1 x2 x3 q v x w w2 h0 hx hw hw2)
    (pay55_at x0 x1 x2 x3 q v x w w2 h0 hx hw hw2) (upper_at x0 x1 x2 x3 q v x w w2 h0 hx hw hw2)
    (lower_at x0 x1 x2 x3 q v x w w2 h0 hx hw hw2)

end Cert.KernelIdeal.Row
-- ==== Proof.Layout.lean ====
/- Three array operations of the two programs read at one element: writing one column of a matrix, writing a run of
   neighbouring columns, and reading in every row the one element its index names. -/
module

public import Idealize.ShloMosaic.Lib.Routing.OpsOne
public import Idealize.ShloMosaic.Lib.ValueIdx

@[expose] public section

namespace Cert.Layout

open Idealize.ShloMosaic Idealize.ShloMosaic.ValueIdx Idealize.ShloMosaic.Routing

variable {α : Type}

/-- Writing a vector down column `k` of a matrix: the vector there, the matrix elsewhere. -/
theorem column_written {A N : ℕ} (d : ScatterDims (shape2 A N) (shape1 1) (shape1 A)) (hiw : d.insertedWindowDims = [1])
    (hsd : d.scatterDimsToOperandDims = [1]) (x : (shape2 A N).Idx → α) (idx : IVec (shape1 1) 32) (u : (shape1 A).Idx → α) (k : Fin N)
    (hk : (idx (ix1 0)).toInt = (k.val : ℤ)) (r : Fin A) (c : Fin N) :
    Host.scatter d (fun _ b => b) x idx u (ix2 r c) = if c = k then u (ix1 r) else x (ix2 r c) := by
  have lands : ∀ j : (shape1 A).Idx, d.resultIdx? j idx = some (ix2 r c) → j 0 = r ∧ c = k := fun j hj =>
    (lands_col d hiw hsd idx k hk (j 0) r c).1 (by rw [← hj]; exact congrArg (d.resultIdx? · idx) (eq_ix1 j).symm)
  by_cases h : c = k
  · rw [if_pos h]
    refine scatter_set_hit d x idx u _ _ (fun j hj => ?_) (ix1 r) ((lands_col d hiw hsd idx k hk r r c).2 ⟨rfl, h⟩)
    exact (congrArg u (eq_ix1 j)).trans (congrArg (fun t => u (ix1 t)) (lands j hj).1)
  · rw [if_neg h]
    exact scatter_set_miss d x idx u _ fun j hj => h (lands j hj).2

/-- Element `(r', c')` of a block written from column `s` on lands at row `r'`, column `s + c'`. -/
theorem block_lands {A N B : ℕ} (d : ScatterDims (shape2 A N) (shape1 1) (shape2 A B)) (huw : d.updateWindowDims = [0, 1])
    (hiw : d.insertedWindowDims = []) (hsd : d.scatterDimsToOperandDims = [1]) (idx : IVec (shape1 1) 32) (s : ℕ)
    (hs : (idx (ix1 0)).toInt = (s : ℤ)) (j : (shape2 A B).Idx) (r : Fin A) (c : Fin N) :
    d.resultIdx? j idx = some (ix2 r c) ↔ (j 0).val = r.val ∧ s + (j 1).val = c.val := by
  have hm : (1 : Fin 2) ∈ d.scatterDimsToOperandDims := by rw [hsd]; exact List.mem_singleton.2 rfl
  have hkept : d.sKept = [0, 1] := by
    show (shape2 A N).kept d.insertedWindowDims = _
    rw [hiw]; rfl
  have pick : ∀ (l : List (Fin 2)) (n : ℕ) (hn : n < l.length) (b : Fin 2), l = [0, 1] → n = b.val → (j (l[n])).val = (j b).val := by
    intro l n hn b hl hb
    subst hl; subst hb
    fin_cases b <;> rfl
  have hwin : ∀ b : Fin 2, d.window j b = (j b).val := fun b => by
    unfold ScatterDims.window
    rw [dif_pos (by rw [hkept]; fin_cases b <;> simp)]
    exact pick _ _ _ b huw (by rw [hkept]; fin_cases b <;> rfl)
  have hstart0 : d.start j idx 0 = 0 := by
    unfold ScatterDims.start
    rw [dif_neg fun h => by rw [hsd] at h; exact absurd (List.mem_singleton.1 h) (by decide : (0 : Fin 2) ≠ 1)]
  have hstart1 : d.start j idx 1 = (s : ℤ) := by
    unfold ScatterDims.start
    rw [dif_pos hm]
    have hsi : d.siIdx j ⟨d.scatterDimsToOperandDims.idxOf 1, List.idxOf_lt_length_iff.2 hm⟩ = ix1 (0 : Fin 1) := by
      funext b
      match b with
      | ⟨0, _⟩ => exact Subsingleton.elim (α := Fin 1) _ _
    rw [hsi, hs]
  rw [resultIdx?_ix2, hstart0, hstart1, hwin, hwin]
  omega

/-- Writing a block of `B` columns from column `s` on: inside, the block; outside, the matrix. -/
theorem block_written {A N B : ℕ} (d : ScatterDims (shape2 A N) (shape1 1) (shape2 A B)) (huw : d.updateWindowDims = [0, 1])
    (hiw : d.insertedWindowDims = []) (hsd : d.scatterDimsToOperandDims = [1]) (x : (shape2 A N).Idx → α) (idx : IVec (shape1 1) 32)
    (u : (shape2 A B).Idx → α) (s : ℕ) (hs : (idx (ix1 0)).toInt = (s : ℤ)) (r : Fin A) (c : Fin N) :
    (∀ k : Fin B, s + k.val = c.val → Host.scatter d (fun _ b => b) x idx u (ix2 r c) = u (ix2 r k))
      ∧ ((∀ k : Fin B, s + k.val ≠ c.val) → Host.scatter d (fun _ b => b) x idx u (ix2 r c) = x (ix2 r c)) := by
  have lands := fun j => block_lands d huw hiw hsd idx s hs j r c
  constructor
  · intro k hk
    refine scatter_set_hit d x idx u _ _ (fun j hj => ?_) (ix2 r k) ((lands _).2 ⟨rfl, hk⟩)
    obtain ⟨h0, h1⟩ := (lands j).1 hj
    have e0 : j 0 = r := Fin.ext h0
    have e1 : j 1 = k := Fin.ext (show (j 1).val = k.val by omega)
    rw [eq_ix2 j]
    exact congrArg₂ (fun a b => u (ix2 a b)) e0 e1
  · intro h
    exact scatter_set_miss d x idx u _ fun j hj => h (j 1) ((lands j).1 hj).2

/-- Reading one element per row: row `r` of the result is row `r` of the matrix at the column its index word names, when that is a
    column of the matrix. -/
theorem row_read {A N : ℕ} (d : GatherDims (shape2 A N) ⟨3, ![A, 1, 1]⟩ (shape2 A 1)) (hoff : d.offsetDims = [])
    (hcoll : d.collapsedSliceDims = [1]) (hob : d.operandBatchingDims = [0]) (hsb : d.startIndicesBatchingDims = [0])
    (hsim : d.startIndexMap = [1]) (hivd : d.indexVectorDim = 2) (x : (shape2 A N).Idx → α) (idx : IVec ⟨3, ![A, 1, 1]⟩ 32)
    (r : Fin A) (k : Fin N) (hk : (idx (ix3 r 0 0)).toInt = (k.val : ℤ)) :
    Host.gather d x idx (ix2 r 0) = x (ix2 r k) := by
  obtain ⟨od, cd, ob, sb, sm, iv, ss, wf⟩ := d
  subst hoff hcoll hob hsb hsim hivd
  have one : ss 1 = 1 := GatherDims.slice_collapsed ⟨[], [1], [0], [0], [1], 2, ss, wf⟩ 1 (List.mem_singleton.2 rfl)
  unfold Host.gather
  congr 1
  funext a
  refine Fin.ext ?_
  match a with
  | ⟨0, _⟩ =>
    show GatherDims.start _ _ idx 0 + GatherDims.batchCoord _ _ 0 + GatherDims.offCoord _ _ 0 = r.val
    rw [GatherDims.start_batching _ _ _ _ (List.mem_singleton.2 rfl),
      GatherDims.offCoord_eq_zero _ _ _ (fun h => ((GatherDims.mem_sKept _ _).mp h).2 (List.mem_singleton.2 rfl))]
    unfold GatherDims.batchCoord
    rw [dif_pos (List.mem_singleton.2 rfl)]
    simp only [Nat.zero_add, Nat.add_zero]
    rfl
  | ⟨1, _⟩ =>
    show GatherDims.start _ _ idx 1 + GatherDims.batchCoord _ _ 1 + GatherDims.offCoord _ _ 1 = k.val
    rw [GatherDims.batchCoord_eq_zero _ _ _ (fun h => absurd (List.mem_singleton.1 h) (by decide : (1 : Fin 2) ≠ 0)),
      GatherDims.offCoord_eq_zero _ _ _ (fun h => ((GatherDims.mem_sKept _ _).mp h).1 (List.mem_singleton.2 rfl))]
    unfold GatherDims.start
    rw [dif_pos (List.mem_singleton.2 rfl)]
    have hsi : ∀ c, GatherDims.siIdx ⟨[], [1], [0], [0], [1], 2, ss, wf⟩ (ix2 r (0 : Fin 1)) c = ix3 r (0 : Fin 1) (0 : Fin 1) := by
      intro c
      funext b
      match b with
      | ⟨0, _⟩ => rfl
      | ⟨1, _⟩ => exact Subsingleton.elim (α := Fin 1) _ _
      | ⟨2, _⟩ => exact Subsingleton.elim (α := Fin 1) _ _
    rw [hsi, hk]
    show min k.val (N - ss 1) + 0 + 0 = k.val
    have := k.isLt
    omega

end Cert.Layout
-- ==== Proof.KernelRun.lean ====
/- The kernel program's run: the arrays prepared before the launch, each block of the launch, the two arrays it leaves, and the
   two results of the program read at a sample's row. -/
module

public import proofs.«01_k».proof.Proof.KernelColumn
public import proofs.«01_k».proof.Proof.Layout
public import Idealize.ShloMosaic.Lib.Claim

@[expose] public section

set_option maxRecDepth 16384

noncomputable section

namespace Cert.KernelIdeal.Row

open Idealize.ShloMosaic Idealize.ShloMosaic.TcCoe Idealize.SL.Sem
open Cert.KernelIdeal Cert.KernelIdeal.Gen Cert.Spline

variable (m : (ℓ : Loc nD τ sig) → Buf (Elt Ideal) ℓ) (c : Dev nD)

/-! ## What the host prepares -/

/-- The contents of a buffer when the launch starts: what the operations before it leave there. -/
theorem entry (b : Ref sig .tc) : V m c b = StableHlo.after hostOps0 (fun b => m (c, b)) (Proc.devRef .tc b) := by
  show StableHlo.after (List.flatten [hostOps0]) _ _ = _
  rw [List.flatten_cons, List.flatten_nil, List.append_nil]

/-- The inputs, regrouped as 16 blocks of 16384. -/
theorem inputs_at (t : Fin 16) (q : Fin 16384) :
    (V m c main_call0_v0 : FVec Ideal S16x1x16384 .f32) (ix3 t 0 q)
      = (m ((c : Thread nD τ).loc main_arg0) : FVec Ideal S262144x1 .f32) (ix2 ⟨t.val * 16384 + q.val, by omega⟩ 0) := by
  rw [entry]
  entry_read
  pointwise

theorem transposed_at (W : FVec Ideal S16x64 .f32) (k : Fin 64) (i : Fin 16) :
    truncf .bf16 (transpose S64x16 [1, 0] W transposes_S16x64_S64x16_1_0) bitsLt_bf16_f32 (ix2 k i) = W (ix2 i k) := by
  pointwise

/-- The first layer's weights, transposed. -/
theorem weights1_at (k : Fin 64) (i : Fin 16) :
    (V m c main_call0_v2 : FVec Ideal S64x16 .bf16) (ix2 k i)
      = (m ((c : Thread nD τ).loc main_arg2) : FVec Ideal S16x64 .f32) (ix2 i k) := by
  rw [entry]
  entry_read
  exact transposed_at (m ((c : Thread nD τ).loc main_arg2)) k i

/-- A matrix of 193 columns with seven zero columns to its right, transposed. -/
def padded (W : FVec Ideal S64x193 .f32) : FVec Ideal S200x64 .bf16 :=
  truncf .bf16 (transpose S200x64 [1, 0] (Host.scatter scatter_S64x200_S1_S64x193_01_n_1_0 (fun _ b => b)
    (broadcastInDim S64x200 ![] bcast_S_S64x200 (constant (F := Ideal) S_ .f32 0#32)) (broadcastInDim S1 ![] bcast_S_S1 (constantI S_ 32 0#32))
    W) transposes_S64x200_S200x64_1_0) bitsLt_bf16_f32

theorem weights2 : V m c main_call0_v7 = padded (m ((c : Thread nD τ).loc main_arg4)) := by
  rw [entry]
  entry_read
  simp only [StableHlo.TRef.ofBuf_toBuf]
  rfl

theorem padded_at (W : FVec Ideal S64x193 .f32) (r : Fin 200) (k : Fin 64) :
    padded W (ix2 r k) = if hr : r.val < 193 then W (ix2 k ⟨r.val, hr⟩) else (0 : EReal) := by
  unfold padded
  have key := Layout.block_written scatter_S64x200_S1_S64x193_01_n_1_0 rfl rfl rfl
    (broadcastInDim S64x200 ![] bcast_S_S64x200 (constant (F := Ideal) S_ .f32 0#32)) (broadcastInDim S1 ![] bcast_S_S1 (constantI S_ 32 0#32))
    W 0 rfl k r
  pointwise
  split
  · rename_i hr
    exact key.1 ⟨r.val, hr⟩ (Nat.zero_add _)
  · rename_i hr
    refine (key.2 fun j hj => hr (by have := j.isLt; omega)).trans ?_
    pointwise

/-- The second layer's weights, transposed, with seven rows of zeros below. -/
theorem weights2_at (r : Fin 200) (k : Fin 64) :
    (V m c main_call0_v7 : FVec Ideal S200x64 .bf16) (ix2 r k)
      = if hr : r.val < 193 then (m ((c : Thread nD τ).loc main_arg4) : FVec Ideal S64x193 .f32) (ix2 k ⟨r.val, hr⟩) else (0 : EReal) := by
  rw [weights2]
  exact padded_at _ r k

/-! ## Where the blocks lie -/

theorem idx : ∀ t : Fin cfg0.N, win0_0.index t = ![t.val, 0, 0] ∧ win0_1.index t = ![t.val, 0] ∧ win0_2.index t = ![0, 0]
    ∧ win0_3.index t = ![0, 0] ∧ win0_4.index t = ![t.val, 0, 0] ∧ win0_5.index t = ![t.val, 0, 0] ∧ t.val < 16 :=
  (by decide +kernel : ∀ t : Fin grid0.N, _)

/-! ## The arrays the launch leaves -/

/-- The 193 numbers of the sample in row `n`, from the arguments as launched. -/
def rowParams (n : Fin 262144) : ℕ → ℝ :=
  params (fun i => ((m ((c : Thread nD τ).loc main_arg1) : FVec Ideal S262144x16 .f32) (ix2 n i)).toReal)
    (fun i k => ((m ((c : Thread nD τ).loc main_arg2) : FVec Ideal S16x64 .f32) (ix2 i k)).toReal)
    (fun k j => ((m ((c : Thread nD τ).loc main_arg4) : FVec Ideal S64x193 .f32) (ix2 k j)).toReal)

/-- The sample's input. -/
def rowInput (n : Fin 262144) : EReal := (m ((c : Thread nD τ).loc main_arg0) : FVec Ideal S262144x1 .f32) (ix2 n 0)

variable (h1 : ∀ n i, (m ((c : Thread nD τ).loc main_arg1) : FVec Ideal S262144x16 .f32) (ix2 n i)
    = (((m ((c : Thread nD τ).loc main_arg1) : FVec Ideal S262144x16 .f32) (ix2 n i)).toReal : EReal))
  (h2 : ∀ i k, (m ((c : Thread nD τ).loc main_arg2) : FVec Ideal S16x64 .f32) (ix2 i k)
    = (((m ((c : Thread nD τ).loc main_arg2) : FVec Ideal S16x64 .f32) (ix2 i k)).toReal : EReal))
  (h4 : ∀ k j, (m ((c : Thread nD τ).loc main_arg4) : FVec Ideal S64x193 .f32) (ix2 k j)
    = (((m ((c : Thread nD τ).loc main_arg4) : FVec Ideal S64x193 .f32) (ix2 k j)).toReal : EReal))

theorem block0_at (t : Fin cfg0.N) (q : Fin 16384) :
    (iblk m c 0 t : FVec Ideal S1x1x16384 .f32) (ix3 0 0 q) = rowInput m c ⟨t.val * 16384 + q.val, by have := (idx t).2.2.2.2.2.2; omega⟩ := by
  have e := inputs_at m c ⟨t.val, (idx t).2.2.2.2.2.2⟩ q
  refine Eq.trans ?_ e
  blk_ext [iblk, idx t]

theorem block1_at (t : Fin cfg0.N) (q : Fin 16384) (i : Fin 16) :
    (iblk m c 1 t : FVec Ideal S16384x16 .f32) (ix2 q i)
      = (m ((c : Thread nD τ).loc main_arg1) : FVec Ideal S262144x16 .f32) (ix2 ⟨t.val * 16384 + q.val, by have := (idx t).2.2.2.2.2.2; omega⟩ i) := by
  blk_ext [iblk, V, idx t]

theorem block2_at (t : Fin cfg0.N) (k : Fin 64) (i : Fin 16) :
    (iblk m c 2 t : FVec Ideal S64x16 .bf16) (ix2 k i) = (m ((c : Thread nD τ).loc main_arg2) : FVec Ideal S16x64 .f32) (ix2 i k) := by
  refine Eq.trans ?_ (weights1_at m c k i)
  blk_ext [iblk, idx t]

theorem block3_at (t : Fin cfg0.N) (r : Fin 200) (k : Fin 64) :
    (iblk m c 3 t : FVec Ideal S200x64 .bf16) (ix2 r k)
      = if hr : r.val < 193 then (m ((c : Thread nD τ).loc main_arg4) : FVec Ideal S64x193 .f32) (ix2 k ⟨r.val, hr⟩) else (0 : EReal) := by
  refine Eq.trans ?_ (weights2_at m c r k)
  blk_ext [iblk, idx t]

/-- The sample of block `t`, column `q`. -/
def sample (t : Fin 16) (q : Fin 16384) : Fin 262144 := ⟨t.val * 16384 + q.val, by omega⟩

/-- The launch's first array: block by block, the spline's values. -/
def values : FVec Ideal S16x1x16384 .f32 := fun j => rowValue (rowParams m c (sample (j 0) (j 2))) (rowInput m c (sample (j 0) (j 2)))

/-- The launch's second array: block by block, the logarithms of the spline's derivatives. -/
def logDerivs : FVec Ideal S16x1x16384 .f32 := fun j => rowLogDeriv (rowParams m c (sample (j 0) (j 2))) (rowInput m c (sample (j 0) (j 2)))

include h1 h2 h4

theorem block_value (t : Fin cfg0.N) (q : Fin 16384) :
    out0_4 (iblk m c 0 t) (iblk m c 1 t) (iblk m c 2 t) (iblk m c 3 t) (ix3 0 0 q)
      = rowValue (rowParams m c (sample ⟨t.val, (idx t).2.2.2.2.2.2⟩ q)) (rowInput m c (sample ⟨t.val, (idx t).2.2.2.2.2.2⟩ q)) := by
  refine out_value_at (iblk m c 0 t) (iblk m c 1 t) (iblk m c 2 t) (iblk m c 3 t) q _ _ _ _ (block0_at m c t q)
    (fun i => (block1_at m c t q i).trans (h1 _ i)) (fun k i => (block2_at m c t k i).trans (h2 i k)) (fun r k => ?_)
  refine (block3_at m c t r k).trans ?_
  split
  · exact h4 k _
  · exact EReal.coe_zero.symm

theorem block_logDeriv (t : Fin cfg0.N) (q : Fin 16384) :
    out0_5 (iblk m c 0 t) (iblk m c 1 t) (iblk m c 2 t) (iblk m c 3 t) (ix3 0 0 q)
      = rowLogDeriv (rowParams m c (sample ⟨t.val, (idx t).2.2.2.2.2.2⟩ q)) (rowInput m c (sample ⟨t.val, (idx t).2.2.2.2.2.2⟩ q)) := by
  refine out_logDeriv_at (iblk m c 0 t) (iblk m c 1 t) (iblk m c 2 t) (iblk m c 3 t) q _ _ _ _ (block0_at m c t q)
    (fun i => (block1_at m c t q i).trans (h1 _ i)) (fun k i => (block2_at m c t k i).trans (h2 i k)) (fun r k => ?_)
  refine (block3_at m c t r k).trans ?_
  split
  · exact h4 k _
  · exact EReal.coe_zero.symm

omit h1 h2 h4 in
theorem sample_eq {a a' : Fin 16} {b b' : Fin 16384} (ha : a.val = a'.val) (hb : b.val = b'.val) : sample a b = sample a' b' := by
  rw [Fin.ext ha, Fin.ext hb]

theorem final_values : (dats m 0 c).arrAt 4 (cfgs 0).N = values m c := by
  refine (dats m 0 c).arrAt_eq_of_covers 4 _ (by decide +kernel) fun t _ y => ?_
  blk_simp
  rw [after0_4]
  obtain ⟨q, rfl⟩ : ∃ q : Fin 16384, y = (ix3 0 0 q : S1x1x16384.Idx) :=
    ⟨y 2, funext fun a => match a with
      | ⟨0, _⟩ => Subsingleton.elim (α := Fin 1) _ _
      | ⟨1, _⟩ => Subsingleton.elim (α := Fin 1) _ _
      | ⟨2, _⟩ => rfl⟩
  refine (block_value m c h1 h2 h4 t q).trans ?_
  have e : sample ⟨t.val, (idx t).2.2.2.2.2.2⟩ q = sample (((win0_4.blk t).view.emb (ix3 0 0 q : S1x1x16384.Idx)) 0)
      (((win0_4.blk t).view.emb (ix3 0 0 q : S1x1x16384.Idx)) 2) := by
    apply sample_eq
    · blk_simp [idx t]
      rfl
    · blk_simp [idx t]
  rw [e]
  rfl

theorem final_logDerivs : (dats m 0 c).arrAt 5 (cfgs 0).N = logDerivs m c := by
  refine (dats m 0 c).arrAt_eq_of_covers 5 _ (by decide +kernel) fun t _ y => ?_
  blk_simp
  rw [after0_5]
  obtain ⟨q, rfl⟩ : ∃ q : Fin 16384, y = (ix3 0 0 q : S1x1x16384.Idx) :=
    ⟨y 2, funext fun a => match a with
      | ⟨0, _⟩ => Subsingleton.elim (α := Fin 1) _ _
      | ⟨1, _⟩ => Subsingleton.elim (α := Fin 1) _ _
      | ⟨2, _⟩ => rfl⟩
  refine (block_logDeriv m c h1 h2 h4 t q).trans ?_
  have e : sample ⟨t.val, (idx t).2.2.2.2.2.2⟩ q = sample (((win0_5.blk t).view.emb (ix3 0 0 q : S1x1x16384.Idx)) 0)
      (((win0_5.blk t).view.emb (ix3 0 0 q : S1x1x16384.Idx)) 2) := by
    apply sample_eq
    · blk_simp [idx t]
      rfl
    · blk_simp [idx t]
  rw [e]
  rfl

omit h1 h2 h4

/-- The program's first result is the launch's first array as one column. -/
theorem tail_values :
    Pipeline.afterTail₀ cfgs (dats m) 0 (V0 m) [hostOps1] c main_v0_0
      = shapeCast S262144x1 ((dats m 0 c).arrAt 4 (cfgs 0).N : FVec Ideal S16x1x16384 .f32) shapeCasts_S16x1x16384_S262144x1 := by
  unfold Pipeline.afterTail₀
  rw [List.flatten_cons, List.flatten_nil, List.append_nil]
  entry_read
  exact congrArg (fun X : FVec Ideal S16x1x16384 .f32 => shapeCast S262144x1 X shapeCasts_S16x1x16384_S262144x1)
    (Pipeline.withArrays_arr (cfgs 0).spec (by decide) c (V0 m c) (fun w => (dats m 0 c).arrAt w (cfgs 0).N) 4)

/-- Its second result is the launch's second array as one vector. -/
theorem tail_logDerivs :
    Pipeline.afterTail₀ cfgs (dats m) 0 (V0 m) [hostOps1] c main_v0_1
      = shapeCast S262144 ((dats m 0 c).arrAt 5 (cfgs 0).N : FVec Ideal S16x1x16384 .f32) shapeCasts_S16x1x16384_S262144 := by
  unfold Pipeline.afterTail₀
  rw [List.flatten_cons, List.flatten_nil, List.append_nil]
  entry_read
  exact congrArg (fun X : FVec Ideal S16x1x16384 .f32 => shapeCast S262144 X shapeCasts_S16x1x16384_S262144)
    (Pipeline.withArrays_arr (cfgs 0).spec (by decide) c (V0 m c) (fun w => (dats m 0 c).arrAt w (cfgs 0).N) 5)

/-- What the program's two results hold at each sample. -/
def valueColumn : FVec Ideal S262144x1 .f32 := fun i => rowValue (rowParams m c (i 0)) (rowInput m c (i 0))
def logDerivColumn : FVec Ideal S262144 .f32 := fun i => rowLogDeriv (rowParams m c (i 0)) (rowInput m c (i 0))

theorem sample_split (n : Fin 262144) :
    sample ⟨n.val / 16384, by have := n.isLt; omega⟩ ⟨n.val % 16384, Nat.mod_lt _ (by decide)⟩ = n :=
  Fin.ext (by show n.val / 16384 * 16384 + n.val % 16384 = n.val; omega)

theorem values_column : shapeCast S262144x1 (values m c) shapeCasts_S16x1x16384_S262144x1 = valueColumn m c := by
  funext i
  idx_vars i
  pointwise
  exact congrArg (fun n => rowValue (rowParams m c n) (rowInput m c n)) (sample_split i0)

theorem logDerivs_column : shapeCast S262144 (logDerivs m c) shapeCasts_S16x1x16384_S262144 = logDerivColumn m c := by
  funext i
  idx_vars i
  pointwise
  exact congrArg (fun n => rowLogDeriv (rowParams m c n) (rowInput m c n)) (sample_split i0)

/-! ## The run -/

/-- The program's run from any memory in which the context and the weights are finite, on every device: it ends with the spline's
    values and log-derivatives in the two results, and the arguments as launched. -/
theorem run (ρ : Dev nD → PrngReg)
    (h1 : ∀ (c : Dev nD) n i, (m ((c : Thread nD τ).loc main_arg1) : FVec Ideal S262144x16 .f32) (ix2 n i)
      = (((m ((c : Thread nD τ).loc main_arg1) : FVec Ideal S262144x16 .f32) (ix2 n i)).toReal : EReal))
    (h2 : ∀ (c : Dev nD) i k, (m ((c : Thread nD τ).loc main_arg2) : FVec Ideal S16x64 .f32) (ix2 i k)
      = (((m ((c : Thread nD τ).loc main_arg2) : FVec Ideal S16x64 .f32) (ix2 i k)).toReal : EReal))
    (h4 : ∀ (c : Dev nD) k j, (m ((c : Thread nD τ).loc main_arg4) : FVec Ideal S64x193 .f32) (ix2 k j)
      = (((m ((c : Thread nD τ).loc main_arg4) : FVec Ideal S64x193 .f32) (ix2 k j)).toReal : EReal)) :
    θ_run defs (onTc (τ := τ) (main (F := Ideal))) ⟨m, fun _ => 0, ρ⟩ (fun r => ∀ c : Dev nD,
      (r.2.mem ((c.tc : Thread nD τ).loc main_v0_0) = valueColumn m c
        ∧ r.2.mem ((c.tc : Thread nD τ).loc main_v0_1) = logDerivColumn m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ?_) (θ_run_and (run_main m ρ) (unchanged m ρ))
  refine ⟨⟨?_, ?_⟩, h.2 c⟩
  · refine ((h.1 c).2 main_v0_0 (Pipeline.mem_restRefs_of main_v0_0 (by decide) (by decide))).trans ?_
    rw [tail_values, final_values m c (h1 c) (h2 c) (h4 c)]
    exact values_column m c
  · refine ((h.1 c).2 main_v0_1 (Pipeline.mem_restRefs_of main_v0_1 (by decide) (by decide))).trans ?_
    rw [tail_logDerivs, final_logDerivs m c (h1 c) (h2 c) (h4 c)]
    exact logDerivs_column m c

end Cert.KernelIdeal.Row
-- ==== Proof.RefRow.lean ====
/- The reference program's arrays read at one sample's row. -/
module

public import proofs.«01_k».proof.Proof.Gen.ReferenceIdeal.Read
public import proofs.«01_k».proof.Proof.Spline
public import proofs.«01_k».proof.Proof.Layout
public import Idealize.ShloMosaic.Lib.Pipeline.ValueKit

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Read Cert.Spline

variable (x0 : FVec Ideal S262144x1 .f32) (x1 : FVec Ideal S262144x16 .f32) (x2 : FVec Ideal S16x64 .f32) (x3 : FVec Ideal S64 .f32)
  (x4 : FVec Ideal S64x193 .f32) (x5 : FVec Ideal S193 .f32) (n : Fin 262144)

/-! ## The soft maximum -/

/-- Subtracting one number from every exponent changes nothing in the shares. -/
theorem shares (u : ℕ → ℝ) (M : ℝ) (i : Fin 64) :
    Ideal.div (Ideal.exp (((u i : ℝ) : EReal) - (M : EReal))) (∑ k : Fin 64, Ideal.exp (((u k : ℝ) : EReal) - (M : EReal)))
      * Ideal.ofBits .f32 0x41200000#32 = ((Real.exp (u i) * scale u : ℝ) : EReal) := by
  have he : ∀ k : Fin 64, Ideal.exp (((u k : ℝ) : EReal) - (M : EReal)) = ((Real.exp (u k) / Real.exp M : ℝ) : EReal) := fun k => by
    rw [← EReal.coe_sub, ← Real.exp_sub]; rfl
  simp only [he]
  rw [← coe_sum, ← Finset.sum_div, Fin.sum_univ_eq_sum_range (fun k => Real.exp (u k)) 64]
  have hs := psum_pos u
  have hM := Real.exp_pos M
  show Ideal.div _ ((psum u 64 / Real.exp M : ℝ) : EReal) * _ = _
  rw [div_real _ (div_pos hs hM).ne', ofBits_ten, ← EReal.coe_mul]
  refine congrArg _ ?_
  unfold scale
  field_simp

/-- The greatest of 64 real numbers is a real number. -/
theorem greatest (g : Fin 64 → EReal) (u : ℕ → ℝ) (hg : ∀ k : Fin 64, g k = ((u k : ℝ) : EReal)) :
    ∃ M : ℝ, Finset.fold max (Ideal.ofBits .f32 0xFF800000#32) g Finset.univ = (M : EReal) := by
  rw [ofBits_neg_inf]
  have htop : Finset.fold max ⊥ g Finset.univ < (⊤ : EReal) :=
    (Finset.fold_max_lt _).2 ⟨bot_lt_top, fun k _ => by rw [hg]; exact EReal.coe_lt_top _⟩
  have hbot : (u 0 : EReal) ≤ Finset.fold max ⊥ g Finset.univ := Finset.le_fold_max _ |>.2 (Or.inr ⟨0, Finset.mem_univ _, (hg 0).ge⟩)
  exact ⟨_, (EReal.coe_toReal htop.ne ((EReal.bot_lt_coe _).trans_le hbot).ne').symm⟩

section Net

variable (x : Fin 16 → ℝ) (w : Fin 16 → Fin 64 → ℝ) (w2 : Fin 64 → Fin 193 → ℝ)
  (h1 : ∀ i, x1 (ix2 n i) = ((x i : ℝ) : EReal)) (h2 : ∀ i k, x2 (ix2 i k) = ((w i k : ℝ) : EReal)) (h3 : ∀ k, x3 (ix1 k) = 0)
  (h4 : ∀ k j, x4 (ix2 k j) = ((w2 k j : ℝ) : EReal)) (h5 : ∀ j, x5 (ix1 j) = 0)

include h1 h2 h3 h4 h5

theorem net_at (j : Fin 193) : val_main_v9 (F := Ideal) x1 x2 x3 x4 x5 (ix2 n j) = ((params x w w2 j : ℝ) : EReal) := by
  pointwise [val_main_v9, val_main_v8, val_main_v7, val_main_v6, val_main_v5, val_main_v4, val_main_cst, val_main_v3, val_main_v2, val_main_v1,
    val_main_v0, h1, h2, h3, h4, h5]
  have hh : ∀ k : Fin 64, max (∑ c, ((x c : ℝ) : EReal) * ((w c k : ℝ) : EReal)) 0 = ((hiddenUnit x w k : ℝ) : EReal) := fun k => by
    simp only [hiddenUnit, ← EReal.coe_mul, ← coe_sum]
    rw [EReal.coe_strictMono.monotone.map_max, EReal.coe_zero]
  simp only [hh]
  simp only [← EReal.coe_mul, ← coe_sum, params, dif_pos j.isLt]

end Net

section Widths

variable (p : ℕ → ℝ) (hp : ∀ j : Fin 193, val_main_v9 (F := Ideal) x1 x2 x3 x4 x5 (ix2 n j) = ((p j : ℝ) : EReal))

include hp

theorem v10_at (i : Fin 64) : val_main_v10 (F := Ideal) x1 x2 x3 x4 x5 (ix2 n i) = ((p i : ℝ) : EReal) := by
  pointwise [val_main_v10]
  exact hp _

theorem v11_at (i : Fin 64) : val_main_v11 (F := Ideal) x1 x2 x3 x4 x5 (ix2 n i) = ((p (64 + i) : ℝ) : EReal) := by
  pointwise [val_main_v11]
  exact hp _

theorem v12_at (i : Fin 65) : val_main_v12 (F := Ideal) x1 x2 x3 x4 x5 (ix2 n i) = ((p (128 + i) : ℝ) : EReal) := by
  pointwise [val_main_v12]
  exact hp _

theorem v13_at : ∃ M : ℝ, val_main_v13 (F := Ideal) x1 x2 x3 x4 x5 (ix1 n) = (M : EReal) := by
  obtain ⟨M, hM⟩ := greatest (fun k => val_main_v10 (F := Ideal) x1 x2 x3 x4 x5 (ix2 n k)) p (v10_at x1 x2 x3 x4 x5 n p hp)
  refine ⟨M, Eq.trans ?_ hM⟩
  pointwise [val_main_v13, val_main_cst_0]

theorem v26_at : ∃ M : ℝ, val_main_v26 (F := Ideal) x1 x2 x3 x4 x5 (ix1 n) = (M : EReal) := by
  obtain ⟨M, hM⟩ := greatest (fun k => val_main_v11 (F := Ideal) x1 x2 x3 x4 x5 (ix2 n k)) (fun k => p (64 + k)) (v11_at x1 x2 x3 x4 x5 n p hp)
  refine ⟨M, Eq.trans ?_ hM⟩
  pointwise [val_main_v26, val_main_cst_4]

theorem v19_at : ∃ M : ℝ, ∀ i : Fin 64, val_main_v19 (F := Ideal) x1 x2 x3 x4 x5 (ix2 n i) = Ideal.exp (((p i : ℝ) : EReal) - (M : EReal)) := by
  obtain ⟨M, hM⟩ := v13_at x1 x2 x3 x4 x5 n p hp
  have h15 : val_main_v15 (F := Ideal) x1 x2 x3 x4 x5 (ix1 n) = (M : EReal) := by
    rw [val_main_v15_apply, hM, val_main_v14_apply, val_main_cst_1_apply]
    show max (Ideal.ofBits .f32 0xFF800000#32) _ = _
    rw [ofBits_neg_inf, max_eq_right bot_le]
  refine ⟨M, fun i => ?_⟩
  have h17 : val_main_v17 (F := Ideal) x1 x2 x3 x4 x5 (ix2 n i) = (M : EReal) := by
    pointwise [val_main_v17, val_main_v16]
    exact h15
  rw [val_main_v19_apply, val_main_v18_apply, h17, v10_at x1 x2 x3 x4 x5 n p hp i]
  rfl

theorem v32_at : ∃ M : ℝ, ∀ i : Fin 64, val_main_v32 (F := Ideal) x1 x2 x3 x4 x5 (ix2 n i) = Ideal.exp (((p (64 + i) : ℝ) : EReal) - (M : EReal)) := by
  obtain ⟨M, hM⟩ := v26_at x1 x2 x3 x4 x5 n p hp
  have h15 : val_main_v28 (F := Ideal) x1 x2 x3 x4 x5 (ix1 n) = (M : EReal) := by
    rw [val_main_v28_apply, hM, val_main_v27_apply, val_main_cst_5_apply]
    show max (Ideal.ofBits .f32 0xFF800000#32) _ = _
    rw [ofBits_neg_inf, max_eq_right bot_le]
  refine ⟨M, fun i => ?_⟩
  have h17 : val_main_v30 (F := Ideal) x1 x2 x3 x4 x5 (ix2 n i) = (M : EReal) := by
    pointwise [val_main_v30, val_main_v29]
    exact h15
  rw [val_main_v32_apply, val_main_v31_apply, h17, v11_at x1 x2 x3 x4 x5 n p hp i]
  rfl

theorem v25_at (i : Fin 64) : val_main_v25 (F := Ideal) x1 x2 x3 x4 x5 (ix2 n i) = ((Real.exp (p i) * scale p : ℝ) : EReal) := by
  obtain ⟨M, hM⟩ := v19_at x1 x2 x3 x4 x5 n p hp
  pointwise [val_main_v25, val_main_v24, val_main_cst_3, val_main_v23, val_main_v22, val_main_v21, val_main_v20, val_main_cst_2, hM]
  exact shares p M i

theorem v38_at (i : Fin 64) : val_main_v38 (F := Ideal) x1 x2 x3 x4 x5 (ix2 n i)
    = ((Real.exp (p (64 + i)) * scale (fun j => p (64 + j)) : ℝ) : EReal) := by
  obtain ⟨M, hM⟩ := v32_at x1 x2 x3 x4 x5 n p hp
  pointwise [val_main_v38, val_main_v37, val_main_cst_7, val_main_v36, val_main_v35, val_main_v34, val_main_v33, val_main_cst_6, hM]
  exact shares (fun j => p (64 + j)) M i

theorem v41_at (i : Fin 65) : val_main_v41 (F := Ideal) x1 x2 x3 x4 x5 (ix2 n i) = Spline.slope ((p (128 + i) : ℝ) : EReal) := by
  pointwise [val_main_v41, val_main_v40, val_main_v39, val_main_cst_8, val_main_call0_v4, val_main_call0_v6, val_main_call0_v11,
    val_main_call0_v10, val_main_call0_v9, val_main_call0_v8, val_main_call0_v7, val_main_call0_v5, val_main_call0_v3, val_main_call0_v2,
    val_main_call0_v1, val_main_call0_v0, val_main_call0_cst]
  rw [if_neg (fun h => h rfl), v12_at x1 x2 x3 x4 x5 n p hp i]
  rfl

end Widths

end Cert.ReferenceIdeal.Row
-- ==== Proof.Prefix.lean ====
/- The running sum along a matrix's rows, read at one element: a window as long as the row, padded so that it ends at
   the element, adds up the row's elements up to that one. -/
module

public import Idealize.ShloMosaic.Lib.Routing.OpsOne
public import Idealize.ShloMosaic.Lib.ValueIdx

@[expose] public section

namespace Cert.Prefix

open Idealize.ShloMosaic Idealize.ShloMosaic.ValueIdx Idealize.ShloMosaic.Routing

/-- Folding an addition over the numbers below `N` from zero is their sum. -/
theorem fold_add {M : Type} [AddCommMonoid M] {N : ℕ} (g : Fin N → M) : (List.finRange N).foldl (fun r k => r + g k) 0 = ∑ k, g k := by
  rw [Fin.sum_univ_def, List.sum_eq_foldl, List.foldl_map]

/-- Sliding a row of `N` numbers so that position `i` is the last one seen, with zeros shown before its start: the sum of what is
    seen is the sum of the row up to position `i`. -/
theorem slid_sum {M : Type} [AddCommMonoid M] (f : ℕ → M) (N i : ℕ) (hi : i < N) :
    ∑ k : Fin N, (if N - 1 ≤ i + k.val then f (i + k.val - (N - 1)) else 0) = ∑ k ∈ Finset.range (i + 1), f k := by
  obtain ⟨d, hd⟩ : ∃ d, N = d + (i + 1) := ⟨N - (i + 1), by omega⟩
  rw [Fin.sum_univ_eq_sum_range (fun k => if N - 1 ≤ i + k then f (i + k - (N - 1)) else 0) N]
  conv_lhs => rw [hd]
  rw [Finset.sum_range_add, Finset.sum_eq_zero fun k hk => if_neg (by have := Finset.mem_range.1 hk; omega), zero_add]
  refine Finset.sum_congr rfl fun k _ => ?_
  rw [if_pos (by omega)]
  exact congrArg f (by omega)

/-- The running sum along the rows of an `A` by 64 matrix. -/
theorem running_sum {A : ℕ} {u : Shape} (x : FVec Ideal (shape2 A 64) .f32) (init : FVec Ideal u .f32)
    (h : (shape2 A 64).ReduceWindows ![1, 64] ![1, 1] ![0, 63] ![0, 0] (shape2 A 64)) (hu : 0 < u.numel)
    (hinit : init (Shape.Idx.first hu) = 0) (r : Fin A) (i : Fin 64) (f : ℕ → EReal) (hx : ∀ k : Fin 64, x (ix2 r k) = f k.val) :
    Host.reduceWindowAdd ![1, 64] ![1, 1] ![0, 63] ![0, 0] x init h hu (ix2 r i) = ∑ k ∈ Finset.range (i.val + 1), f k := by
  show Ideal.hostReduceWindowAdd ![1, 64] ![1, 1] ![0, 63] ![0, 0] h x (init (Shape.Idx.first hu)) (ix2 r i) = _
  rw [hinit]
  unfold Ideal.hostReduceWindowAdd Host.reduceWindow
  refine (fold_add _).trans ?_
  let W : Shape := ⟨2, ![1, 64]⟩
  let g : W.Idx → EReal := fun w => if 63 ≤ i.val + (w 1).val then f (i.val + (w 1).val - 63) else 0
  have hg : ∑ w : W.Idx, g w = ∑ k ∈ Finset.range (i.val + 1), f k := by
    refine (sum_idx2 (n0 := 1) (n1 := 64) g).trans ?_
    rw [Fin.sum_univ_one]
    exact slid_sum f 64 i.val i.isLt
  refine (Finset.sum_congr rfl fun k _ => ?_).trans ((Equiv.sum_comp W.rowMajor.symm g).trans hg)
  let w : W.Idx := W.rowMajor.symm k
  have h0 : (w 0).val = 0 := Nat.lt_one_iff.1 (w 0).isLt
  by_cases hk : 63 ≤ i.val + (w 1).val
  · have hlt : i.val + (w 1).val - 63 < 64 := by have h1 : (w 1).val < 64 := (w 1).isLt; have := i.isLt; omega
    have hin : ∀ a : Fin 2, (![0, 63] : Fin 2 → ℕ) a ≤ ((ix2 r i) a).val * (![1, 1] : Fin 2 → ℕ) a + (w a).val
        ∧ ((ix2 r i) a).val * (![1, 1] : Fin 2 → ℕ) a + (w a).val - (![0, 63] : Fin 2 → ℕ) a < (shape2 A 64).size a := by
      intro a
      match a with
      | 0 =>
        show 0 ≤ r.val * 1 + (w 0).val ∧ r.val * 1 + (w 0).val - 0 < A
        have := r.isLt; omega
      | 1 =>
        show 63 ≤ i.val * 1 + (w 1).val ∧ i.val * 1 + (w 1).val - 63 < 64
        omega
    refine Eq.trans ?_ (show f (i.val + (w 1).val - 63) = g w from (if_pos hk).symm)
    split
    · refine Eq.trans ?_ (hx ⟨_, hlt⟩)
      refine congrArg x (funext fun a => ?_)
      match a with
      | 0 =>
        refine Fin.ext ?_
        show r.val * 1 + (w 0).val - 0 = r.val
        omega
      | 1 =>
        refine Fin.ext ?_
        show i.val * 1 + (w 1).val - 63 = i.val + (w 1).val - 63
        omega
    · rename_i hnot
      exact absurd hin hnot
  · refine Eq.trans ?_ (show (0 : EReal) = g w from (if_neg hk).symm)
    split
    · rename_i hin
      have h1 : 63 ≤ i.val * 1 + (w 1).val := (hin 1).1
      omega
    · rfl

end Cert.Prefix
-- ==== Proof.RefKnots.lean ====
/- The reference program's knots, and the bin the sample falls in. -/
module

public import proofs.«01_k».proof.Proof.RefRow
public import proofs.«01_k».proof.Proof.Prefix
public import proofs.«01_k».proof.Proof.KernelRow

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Read Cert.Spline

/-- The sum of the first `m` bins' lengths. -/
theorem lengths_sum (u : ℕ → ℝ) (m : ℕ) : ∑ k ∈ Finset.range m, ((Real.exp (u k) * scale u : ℝ) : EReal) = ((psum u m * scale u : ℝ) : EReal) := by
  rw [← coe_sum, ← Finset.sum_mul]
  rfl

theorem knot_word0 (i : Fin 1) : (val_main_v43 (F := Ideal) (ix1 i)).toInt = ((0 : Fin 65).val : ℤ) := by
  have h : val_main_v43 (F := Ideal) (ix1 i) = 0#32 := by pointwise [val_main_v43, val_main_c]
  rw [h]; rfl

theorem knot_word1 (i : Fin 1) : (val_main_v49 (F := Ideal) (ix1 i)).toInt = ((1 : ℕ) : ℤ) := by
  have h : val_main_v49 (F := Ideal) (ix1 i) = 1#32 := by pointwise [val_main_v49, val_main_c_12]
  rw [h]; rfl

theorem knot_word64 (i : Fin 1) : (val_main_v51 (F := Ideal) (ix1 i)).toInt = ((64 : Fin 65).val : ℤ) := by
  have h : val_main_v51 (F := Ideal) (ix1 i) = 64#32 := by pointwise [val_main_v51, val_main_c_13]
  rw [h]; rfl

theorem height_word0 (i : Fin 1) : (val_main_v55 (F := Ideal) (ix1 i)).toInt = ((0 : Fin 65).val : ℤ) := by
  have h : val_main_v55 (F := Ideal) (ix1 i) = 0#32 := by pointwise [val_main_v55, val_main_c_16]
  rw [h]; rfl

theorem height_word1 (i : Fin 1) : (val_main_v61 (F := Ideal) (ix1 i)).toInt = ((1 : ℕ) : ℤ) := by
  have h : val_main_v61 (F := Ideal) (ix1 i) = 1#32 := by pointwise [val_main_v61, val_main_c_19]
  rw [h]; rfl

theorem height_word64 (i : Fin 1) : (val_main_v63 (F := Ideal) (ix1 i)).toInt = ((64 : Fin 65).val : ℤ) := by
  have h : val_main_v63 (F := Ideal) (ix1 i) = 64#32 := by pointwise [val_main_v63, val_main_c_20]
  rw [h]; rfl

/-- Three writes make a row of knots: the left end in column 0, the right ends of the bins from column 1 on, and `5` in the last. -/
theorem three_writes (X Y Z : FVec Ideal S262144x65 .f32) (W0 : FVec Ideal S262144x65 .f32) (a c : FVec Ideal S262144 .f32)
    (b : FVec Ideal S262144x64 .f32) (i0 i1 i2 : IVec S1 32)
    (hX : X = Host.scatter scatter_S262144x65_S1_S262144_0_1_1_0 (fun _ b => b) W0 i0 a)
    (hY : Y = Host.scatter scatter_S262144x65_S1_S262144x64_01_n_1_0 (fun _ b => b) X i1 b)
    (hZ : Z = Host.scatter scatter_S262144x65_S1_S262144_0_1_1_0 (fun _ b => b) Y i2 c)
    (h0 : (i0 (ix1 0)).toInt = ((0 : Fin 65).val : ℤ)) (h1 : (i1 (ix1 0)).toInt = ((1 : ℕ) : ℤ)) (h2 : (i2 (ix1 0)).toInt = ((64 : Fin 65).val : ℤ))
    (n : Fin 262144) (u : ℕ → ℝ) (ha : a (ix1 n) = ((-5 : ℝ) : EReal)) (hc : c (ix1 n) = ((5 : ℝ) : EReal))
    (hb : ∀ k : Fin 64, b (ix2 n k) = ((knot u (k.val + 1) : ℝ) : EReal)) (i : Fin 65) : Z (ix2 n i) = ((knot u i.val : ℝ) : EReal) := by
  rw [hZ]
  refine (Layout.column_written (A := 262144) (N := 65) _ rfl rfl Y i2 c 64 h2 n i).trans ?_
  by_cases h64 : i = 64
  · rw [if_pos h64, h64]
    exact hc.trans (congrArg _ (knot_last u).symm)
  rw [if_neg h64, hY]
  have hw := Layout.block_written (A := 262144) (N := 65) (B := 64) scatter_S262144x65_S1_S262144x64_01_n_1_0 rfl rfl rfl X i1 b 1 h1 n i
  by_cases hz : i = 0
  · rw [hw.2 fun k hk => by rw [hz] at hk; have hk' : 1 + k.val = 0 := hk; omega, hX]
    refine (Layout.column_written (A := 262144) (N := 65) _ rfl rfl W0 i0 a 0 h0 n i).trans ?_
    rw [if_pos hz, hz]
    exact ha.trans (congrArg _ (knot_zero u).symm)
  · have hpos : i.val ≠ 0 := fun h => hz (Fin.ext h)
    have hlt : i.val ≠ 64 := fun h => h64 (Fin.ext h)
    have hi := i.isLt
    refine (hw.1 ⟨i.val - 1, by omega⟩ (by show 1 + (i.val - 1) = i.val; omega)).trans ?_
    refine (hb _).trans ?_
    show ((knot u (i.val - 1 + 1) : ℝ) : EReal) = _
    rw [show i.val - 1 + 1 = i.val by omega]

variable (x0 : FVec Ideal S262144x1 .f32) (x1 : FVec Ideal S262144x16 .f32) (x2 : FVec Ideal S16x64 .f32) (x3 : FVec Ideal S64 .f32)
  (x4 : FVec Ideal S64x193 .f32) (x5 : FVec Ideal S193 .f32) (n : Fin 262144)
  (p : ℕ → ℝ) (hp : ∀ j : Fin 193, val_main_v9 (F := Ideal) x1 x2 x3 x4 x5 (ix2 n j) = ((p j : ℝ) : EReal))

include hp

theorem v46_at (i : Fin 64) : val_main_v46 (F := Ideal) x1 x2 x3 x4 x5 (ix2 n i) = ((psum p (i.val + 1) * scale p : ℝ) : EReal) := by
  unfold val_main_v46
  refine (Prefix.running_sum (A := 262144) _ _ _ _ ?_ n i (fun k => ((Real.exp (p k) * scale p : ℝ) : EReal)) (v25_at x1 x2 x3 x4 x5 n p hp)).trans
    (lengths_sum p _)
  rw [val_main_call1_call0_v0_apply, val_main_call1_call0_cst_apply]
  exact Ideal.ofBits_zero_f32

theorem v58_at (i : Fin 64) : val_main_v58 (F := Ideal) x1 x2 x3 x4 x5 (ix2 n i)
    = ((psum (fun j => p (64 + j)) (i.val + 1) * scale (fun j => p (64 + j)) : ℝ) : EReal) := by
  unfold val_main_v58
  refine (Prefix.running_sum (A := 262144) _ _ _ _ ?_ n i (fun k => ((Real.exp (p (64 + k)) * scale (fun j => p (64 + j)) : ℝ) : EReal))
    (v38_at x1 x2 x3 x4 x5 n p hp)).trans (lengths_sum (fun j => p (64 + j)) _)
  rw [val_main_call2_call0_v0_apply, val_main_call2_call0_cst_apply]
  exact Ideal.ofBits_zero_f32

theorem v48_at (i : Fin 64) : val_main_v48 (F := Ideal) x1 x2 x3 x4 x5 (ix2 n i) = ((knot p (i.val + 1) : ℝ) : EReal) := by
  rw [val_main_v48_apply, v46_at x1 x2 x3 x4 x5 n p hp, val_main_v47_apply, val_main_cst_11_apply]
  show Ideal.ofBits .f32 0xC0A00000#32 + _ = _
  rw [ofBits_neg_five, ← EReal.coe_add]
  rfl

theorem v60_at (i : Fin 64) : val_main_v60 (F := Ideal) x1 x2 x3 x4 x5 (ix2 n i) = ((knot (fun j => p (64 + j)) (i.val + 1) : ℝ) : EReal) := by
  rw [val_main_v60_apply, v58_at x1 x2 x3 x4 x5 n p hp, val_main_v59_apply, val_main_cst_18_apply]
  show Ideal.ofBits .f32 0xC0A00000#32 + _ = _
  rw [ofBits_neg_five, ← EReal.coe_add]
  rfl

/-- The knots. -/
theorem v53_at (i : Fin 65) : val_main_v53 (F := Ideal) x1 x2 x3 x4 x5 (ix2 n i) = ((knot p i.val : ℝ) : EReal) := by
  refine three_writes (val_main_v45 (F := Ideal)) (val_main_v50 (F := Ideal) x1 x2 x3 x4 x5) (val_main_v53 (F := Ideal) x1 x2 x3 x4 x5)
    (val_main_v42 (F := Ideal)) (val_main_v44 (F := Ideal)) (val_main_v52 (F := Ideal)) (val_main_v48 (F := Ideal) x1 x2 x3 x4 x5)
    (val_main_v43 (F := Ideal)) (val_main_v49 (F := Ideal)) (val_main_v51 (F := Ideal)) rfl rfl rfl (knot_word0 0) (knot_word1 0) (knot_word64 0)
    n p ?_ ?_ (v48_at x1 x2 x3 x4 x5 n p hp) i
  · rw [val_main_v44_apply, val_main_cst_10_apply]
    exact ofBits_neg_five
  · rw [val_main_v52_apply, val_main_cst_14_apply]
    exact ofBits_five

/-- The knots' heights. -/
theorem v65_at (i : Fin 65) : val_main_v65 (F := Ideal) x1 x2 x3 x4 x5 (ix2 n i) = ((knot (fun j => p (64 + j)) i.val : ℝ) : EReal) := by
  refine three_writes (val_main_v57 (F := Ideal)) (val_main_v62 (F := Ideal) x1 x2 x3 x4 x5) (val_main_v65 (F := Ideal) x1 x2 x3 x4 x5)
    (val_main_v54 (F := Ideal)) (val_main_v56 (F := Ideal)) (val_main_v64 (F := Ideal)) (val_main_v60 (F := Ideal) x1 x2 x3 x4 x5)
    (val_main_v55 (F := Ideal)) (val_main_v61 (F := Ideal)) (val_main_v63 (F := Ideal)) rfl rfl rfl (height_word0 0) (height_word1 0) (height_word64 0)
    n _ ?_ ?_ (v60_at x1 x2 x3 x4 x5 n p hp) i
  · rw [val_main_v56_apply, val_main_cst_17_apply]
    exact ofBits_neg_five
  · rw [val_main_v64_apply, val_main_cst_21_apply]
    exact ofBits_five

theorem v69_at (i : Fin 65) : val_main_v69 (F := Ideal) x0 x1 x2 x3 x4 x5 (ix2 n i) = 1#1 ↔ ((knot p i.val : ℝ) : EReal) < x0 (ix2 n 0) := by
  have h : val_main_v69 (F := Ideal) x0 x1 x2 x3 x4 x5 (ix2 n i)
      = BitVec.ofBool (decide (val_main_v53 (F := Ideal) x1 x2 x3 x4 x5 (ix2 n i) < x0 (ix2 n 0))) := by
    pointwise [val_main_v69, val_main_v68, val_main_v67, val_main_v66]
  rw [h, v53_at x1 x2 x3 x4 x5 n p hp]
  exact KernelIdeal.Row.bit_iff _

theorem v71_at : val_main_v71 (F := Ideal) x0 x1 x2 x3 x4 x5 (ix1 n) = BitVec.ofNat 32 (count p (x0 (ix2 n 0))) :=
  Routing.reduce_count (by norm_num) (val_main_v69 (F := Ideal) x0 x1 x2 x3 x4 x5) natLt_1_32 reducesTo_S262144x65_S262144_d1 h_S_ n
    (fun i => ((knot p i : ℝ) : EReal) < x0 (ix2 n 0)) (v69_at x0 x1 x2 x3 x4 x5 n p hp)

/-- The bin, as a word. -/
theorem v75_at : val_main_v75 (F := Ideal) x0 x1 x2 x3 x4 x5 (ix2 n 0) = BitVec.ofNat 32 (bin p (x0 (ix2 n 0))) := by
  pointwise [val_main_v75, val_main_v74, val_main_v73, val_main_v72, val_main_c_23, val_main_call3_v4, val_main_call3_v2]
  rw [v71_at x0 x1 x2 x3 x4 x5 n p hp, val_main_call3_v1_apply, val_main_call3_v0_apply, val_main_c_24_apply, val_main_call3_v3_apply, val_main_c_25_apply]
  exact KernelIdeal.Row.word_bin ⟨count p (x0 (ix2 n 0)), Nat.lt_succ_of_le (count_le _ _)⟩

end Cert.ReferenceIdeal.Row
-- ==== Proof.RefPick.lean ====
/- The reference program's six look-ups: in every row of a table of 65 columns, the one element a word names. -/
module

public import proofs.«01_k».proof.Proof.RefKnots

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Read Cert.Spline

/-- The words naming columns, negative ones counted from the table's end, with one more axis. -/
def wrapped (e : IVec S262144x1 32) : IVec S262144x1x1 32 :=
  shapeCast S262144x1x1 (select (cmpi .slt e (broadcastInDim S262144x1 ![] bcast_S_S262144x1 (constantI S_ 32 0#32)))
    (addi e (broadcastInDim S262144x1 ![] bcast_S_S262144x1 (constantI S_ 32 65#32))) e) shapeCasts_S262144x1_S262144x1x1

/-- Whether each word names a column the table has. -/
def inTable (e : IVec S262144x1 32) : IVec S262144x1 1 :=
  Host.reduce IntOp.andi (andi (cmpi .sge (wrapped e) (broadcastInDim S262144x1x1 ![] bcast_S_S262144x1x1 (constantI S_ 32 0#32)))
    (cmpi .sle (wrapped e) (broadcastInDim S262144x1x1 ![0, 1, 2] bcast_S1x1x1_S262144x1x1_0_1_2
      (broadcastInDim S1x1x1 ![2] bcast_S1_S1x1x1_2 (constantI S1 32 64#32))))) (constantI S_ 1 1#1) reducesTo_S262144x1x1_S262144x1_d2 h_S_

/-- The look-up: the element where the column exists, a fixed filler where not. -/
def taken (T : FVec Ideal S262144x65 .f32) (e : IVec S262144x1 32) : FVec Ideal S262144 .f32 :=
  shapeCast S262144 (select (inTable e) (Host.gather gather_S262144x65_S262144x1x1_S262144x1_n_1_0_0_1_2_11 T (wrapped e))
    (broadcastInDim S262144x1 ![] bcast_S_S262144x1 (constant S_ .f32 0x7FC00000#32))) shapeCasts_S262144x1_S262144

theorem word_kept : ∀ b : Fin 65, Scalar.select (IntOp.cmpi .slt (BitVec.ofNat 32 b.val) 0#32) (IntOp.addi (BitVec.ofNat 32 b.val) 65#32)
    (BitVec.ofNat 32 b.val) = BitVec.ofNat 32 b.val := by
  decide +kernel

theorem word_inside : ∀ b : Fin 65, IntOp.andi (IntOp.cmpi .sge (BitVec.ofNat 32 b.val) 0#32) (IntOp.cmpi .sle (BitVec.ofNat 32 b.val) 64#32)
    = 1#1 := by
  decide +kernel

theorem word_next : ∀ b : Fin 64, IntOp.addi (BitVec.ofNat 32 b.val) 1#32 = BitVec.ofNat 32 (b.val + 1) := by
  decide +kernel

theorem word_value : ∀ b : Fin 65, (BitVec.ofNat 32 b.val).toInt = (b.val : ℤ) := by
  decide +kernel

section Lookup

variable (T : FVec Ideal S262144x65 .f32) (e : IVec S262144x1 32) (n : Fin 262144) (b : Fin 65) (he : e (ix2 n 0) = BitVec.ofNat 32 b.val)

include he

theorem wrapped_at : wrapped e (ix3 n 0 0) = BitVec.ofNat 32 b.val := by
  pointwise [wrapped, he]
  exact word_kept b

theorem inTable_at : inTable e (ix2 n 0) = 1#1 := by
  pointwise [inTable]
  rw [Finset.univ_unique, Finset.fold_singleton]
  have hw := wrapped_at e n b he
  rw [show (default : Fin 1) = 0 from rfl, hw, word_inside]
  rfl

theorem taken_at : taken T e (ix1 n) = T (ix2 n b) := by
  have hr := Layout.row_read (A := 262144) (N := 65) gather_S262144x65_S262144x1x1_S262144x1_n_1_0_0_1_2_11 rfl rfl rfl rfl rfl rfl T (wrapped e) n b
    ((congrArg BitVec.toInt (wrapped_at e n b he)).trans (word_value b))
  pointwise [taken]
  rw [inTable_at e n b he]
  exact hr

end Lookup

variable (x0 : FVec Ideal S262144x1 .f32) (x1 : FVec Ideal S262144x16 .f32) (x2 : FVec Ideal S16x64 .f32) (x3 : FVec Ideal S64 .f32)
  (x4 : FVec Ideal S64x193 .f32) (x5 : FVec Ideal S193 .f32) (n : Fin 262144)
  (p : ℕ → ℝ) (hp : ∀ j : Fin 193, val_main_v9 (F := Ideal) x1 x2 x3 x4 x5 (ix2 n j) = ((p j : ℝ) : EReal))

theorem v77_eq : val_main_v77 (F := Ideal) x0 x1 x2 x3 x4 x5 = taken (val_main_v53 (F := Ideal) x1 x2 x3 x4 x5) (val_main_v75 (F := Ideal) x0 x1 x2 x3 x4 x5) := rfl
theorem v79_eq : val_main_v79 (F := Ideal) x0 x1 x2 x3 x4 x5 = taken (val_main_v65 (F := Ideal) x1 x2 x3 x4 x5) (val_main_v75 (F := Ideal) x0 x1 x2 x3 x4 x5) := rfl
theorem v83_eq : val_main_v83 (F := Ideal) x0 x1 x2 x3 x4 x5 = taken (val_main_v53 (F := Ideal) x1 x2 x3 x4 x5) (val_main_v81 (F := Ideal) x0 x1 x2 x3 x4 x5) := rfl
theorem v87_eq : val_main_v87 (F := Ideal) x0 x1 x2 x3 x4 x5 = taken (val_main_v65 (F := Ideal) x1 x2 x3 x4 x5) (val_main_v85 (F := Ideal) x0 x1 x2 x3 x4 x5) := rfl
theorem v89_eq : val_main_v89 (F := Ideal) x0 x1 x2 x3 x4 x5 = taken (val_main_v41 (F := Ideal) x1 x2 x3 x4 x5) (val_main_v75 (F := Ideal) x0 x1 x2 x3 x4 x5) := rfl
theorem v93_eq : val_main_v93 (F := Ideal) x0 x1 x2 x3 x4 x5 = taken (val_main_v41 (F := Ideal) x1 x2 x3 x4 x5) (val_main_v91 (F := Ideal) x0 x1 x2 x3 x4 x5) := rfl

include hp

theorem v81_at : val_main_v81 (F := Ideal) x0 x1 x2 x3 x4 x5 (ix2 n 0) = BitVec.ofNat 32 (bin p (x0 (ix2 n 0)) + 1) := by
  pointwise [val_main_v81, val_main_v80, val_main_c_26]
  rw [v75_at x0 x1 x2 x3 x4 x5 n p hp]
  exact word_next ⟨_, bin_lt _ _⟩

theorem v85_at : val_main_v85 (F := Ideal) x0 x1 x2 x3 x4 x5 (ix2 n 0) = BitVec.ofNat 32 (bin p (x0 (ix2 n 0)) + 1) := by
  pointwise [val_main_v85, val_main_v84, val_main_c_27]
  rw [v75_at x0 x1 x2 x3 x4 x5 n p hp]
  exact word_next ⟨_, bin_lt _ _⟩

theorem v91_at : val_main_v91 (F := Ideal) x0 x1 x2 x3 x4 x5 (ix2 n 0) = BitVec.ofNat 32 (bin p (x0 (ix2 n 0)) + 1) := by
  pointwise [val_main_v91, val_main_v90, val_main_c_28]
  rw [v75_at x0 x1 x2 x3 x4 x5 n p hp]
  exact word_next ⟨_, bin_lt _ _⟩

theorem v77_at : val_main_v77 (F := Ideal) x0 x1 x2 x3 x4 x5 (ix1 n) = ((knot p (bin p (x0 (ix2 n 0))) : ℝ) : EReal) := by
  rw [v77_eq, taken_at _ _ n ⟨_, (bin_lt _ _).trans (by norm_num)⟩ (v75_at x0 x1 x2 x3 x4 x5 n p hp), v53_at x1 x2 x3 x4 x5 n p hp]

theorem v83_at : val_main_v83 (F := Ideal) x0 x1 x2 x3 x4 x5 (ix1 n) = ((knot p (bin p (x0 (ix2 n 0)) + 1) : ℝ) : EReal) := by
  rw [v83_eq, taken_at _ _ n ⟨_, Nat.succ_lt_succ (bin_lt _ _)⟩ (v81_at x0 x1 x2 x3 x4 x5 n p hp), v53_at x1 x2 x3 x4 x5 n p hp]

theorem v79_at : val_main_v79 (F := Ideal) x0 x1 x2 x3 x4 x5 (ix1 n) = ((knot (fun i => p (64 + i)) (bin p (x0 (ix2 n 0))) : ℝ) : EReal) := by
  rw [v79_eq, taken_at _ _ n ⟨_, (bin_lt _ _).trans (by norm_num)⟩ (v75_at x0 x1 x2 x3 x4 x5 n p hp), v65_at x1 x2 x3 x4 x5 n p hp]

theorem v87_at : val_main_v87 (F := Ideal) x0 x1 x2 x3 x4 x5 (ix1 n) = ((knot (fun i => p (64 + i)) (bin p (x0 (ix2 n 0)) + 1) : ℝ) : EReal) := by
  rw [v87_eq, taken_at _ _ n ⟨_, Nat.succ_lt_succ (bin_lt _ _)⟩ (v85_at x0 x1 x2 x3 x4 x5 n p hp), v65_at x1 x2 x3 x4 x5 n p hp]

theorem v89_at : val_main_v89 (F := Ideal) x0 x1 x2 x3 x4 x5 (ix1 n) = Spline.slope ((p (128 + bin p (x0 (ix2 n 0))) : ℝ) : EReal) := by
  rw [v89_eq, taken_at _ _ n ⟨_, (bin_lt _ _).trans (by norm_num)⟩ (v75_at x0 x1 x2 x3 x4 x5 n p hp), v41_at x1 x2 x3 x4 x5 n p hp]

theorem v93_at : val_main_v93 (F := Ideal) x0 x1 x2 x3 x4 x5 (ix1 n) = Spline.slope ((p (128 + (bin p (x0 (ix2 n 0)) + 1)) : ℝ) : EReal) := by
  rw [v93_eq, taken_at _ _ n ⟨_, Nat.succ_lt_succ (bin_lt _ _)⟩ (v91_at x0 x1 x2 x3 x4 x5 n p hp), v41_at x1 x2 x3 x4 x5 n p hp]

end Cert.ReferenceIdeal.Row
-- ==== Proof.RefSpline.lean ====
/- The reference program's two results at one sample: the spline of the sample's row of numbers, and its log-derivative. -/
module

public import proofs.«01_k».proof.Proof.RefPick

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Read Cert.Spline

variable (x0 : FVec Ideal S262144x1 .f32) (x1 : FVec Ideal S262144x16 .f32) (x2 : FVec Ideal S16x64 .f32) (x3 : FVec Ideal S64 .f32)
  (x4 : FVec Ideal S64x193 .f32) (x5 : FVec Ideal S193 .f32) (n : Fin 262144)

section Bin

variable (xk xk1 yk yk1 dk dk1 : EReal)
  (h77 : val_main_v77 (F := Ideal) x0 x1 x2 x3 x4 x5 (ix1 n) = xk) (h83 : val_main_v83 (F := Ideal) x0 x1 x2 x3 x4 x5 (ix1 n) = xk1)
  (h79 : val_main_v79 (F := Ideal) x0 x1 x2 x3 x4 x5 (ix1 n) = yk) (h87 : val_main_v87 (F := Ideal) x0 x1 x2 x3 x4 x5 (ix1 n) = yk1)
  (h89 : val_main_v89 (F := Ideal) x0 x1 x2 x3 x4 x5 (ix1 n) = dk) (h93 : val_main_v93 (F := Ideal) x0 x1 x2 x3 x4 x5 (ix1 n) = dk1)

include h77 h83

theorem v101_at : val_main_v101 (F := Ideal) x0 x1 x2 x3 x4 x5 (ix1 n) = pos (x0 (ix2 n 0)) xk xk1 := by
  pointwise [val_main_v101, val_main_call10_v4, val_main_call10_v2, val_main_call10_v1, val_main_v100, val_main_v99, val_main_v98, val_main_cst_29,
    val_main_v97, val_main_v94, val_main_v66, h77, h83]
  rw [val_main_call10_v0_apply, val_main_cst_30_apply, val_main_call10_v3_apply, val_main_cst_31_apply]
  show min (Ideal.ofBits .f32 0x3F800000#32) (max (Ideal.ofBits .f32 0x00000000#32) _) = _
  rw [Ideal.ofBits_one_f32, Ideal.ofBits_zero_f32]
  rfl

include h79 h87

theorem v96_at : val_main_v96 (F := Ideal) x0 x1 x2 x3 x4 x5 (ix1 n) = secant xk xk1 yk yk1 := by
  pointwise [val_main_v96, val_main_v95, val_main_v94, h77, h83, h79, h87]
  rfl

include h89 h93

theorem v117_at : val_main_v117 (F := Ideal) x0 x1 x2 x3 x4 x5 (ix1 n) = den (secant xk xk1 yk yk1) (pos (x0 (ix2 n 0)) xk xk1) dk dk1 := by
  have hp := v101_at x0 x1 x2 x3 x4 x5 n xk xk1 h77 h83
  have hs := v96_at x0 x1 x2 x3 x4 x5 n xk xk1 yk yk1 h77 h83 h79 h87
  pointwise [val_main_v117, val_main_v116, val_main_v115, val_main_v114, val_main_cst_34, val_main_v113, val_main_v112, val_main_v111, val_main_v110,
    val_main_cst_33, val_main_v109, hp, hs, h89, h93]
  rfl

theorem v147_at : val_main_v147 (F := Ideal) x0 x1 x2 x3 x4 x5 (ix1 n) = den (secant xk xk1 yk yk1) (pos (x0 (ix2 n 0)) xk xk1) dk dk1 := by
  have hp := v101_at x0 x1 x2 x3 x4 x5 n xk xk1 h77 h83
  have hs := v96_at x0 x1 x2 x3 x4 x5 n xk xk1 yk yk1 h77 h83 h79 h87
  pointwise [val_main_v147, val_main_v146, val_main_v145, val_main_v144, val_main_cst_40, val_main_v143, val_main_v142, val_main_v141, val_main_v140,
    val_main_cst_39, val_main_v139, hp, hs, h89, h93]
  rfl

theorem v122_at : val_main_v122 (F := Ideal) x0 x1 x2 x3 x4 x5 (ix1 n) = value (x0 (ix2 n 0)) xk xk1 yk yk1 dk dk1 := by
  have hp := v101_at x0 x1 x2 x3 x4 x5 n xk xk1 h77 h83
  have hs := v96_at x0 x1 x2 x3 x4 x5 n xk xk1 yk yk1 h77 h83 h79 h87
  have hd := v117_at x0 x1 x2 x3 x4 x5 n xk xk1 yk yk1 dk dk1 h77 h83 h79 h87 h89 h93
  pointwise [val_main_v122, val_main_v121, val_main_v120, val_main_v119, val_main_v118, val_main_cst_35, val_main_v108, val_main_v107, val_main_v106,
    val_main_v105, val_main_cst_32, val_main_v104, val_main_v103, val_main_v102, val_main_v95, hp, hs, hd, h79, h87, h89]
  simp only [value, mul_assoc]

theorem v155_at : val_main_v155 (F := Ideal) x0 x1 x2 x3 x4 x5 (ix1 n) = logDeriv (x0 (ix2 n 0)) xk xk1 yk yk1 dk dk1 := by
  have hp := v101_at x0 x1 x2 x3 x4 x5 n xk xk1 h77 h83
  have hs := v96_at x0 x1 x2 x3 x4 x5 n xk xk1 yk yk1 h77 h83 h79 h87
  have hd := v147_at x0 x1 x2 x3 x4 x5 n xk xk1 yk yk1 dk dk1 h77 h83 h79 h87 h89 h93
  pointwise [val_main_v155, val_main_v154, val_main_v153, val_main_v152, val_main_cst_42, val_main_v151, val_main_v150, val_main_v149, val_main_cst_41,
    val_main_v148, val_main_v138, val_main_v137, val_main_v136, val_main_v135, val_main_v134, val_main_v133, val_main_v132, val_main_cst_38,
    val_main_v131, val_main_v130, val_main_v129, val_main_v128, val_main_cst_37, val_main_v127, val_main_v126, val_main_v125, val_main_cst_36,
    val_main_v124, val_main_v123, hp, hs, hd, h89, h93]
  simp only [Spline.logDeriv, mul_assoc]

end Bin

variable (p : ℕ → ℝ) (hp : ∀ j : Fin 193, val_main_v9 (F := Ideal) x1 x2 x3 x4 x5 (ix2 n j) = ((p j : ℝ) : EReal))

include hp

/-- The spline's value at a sample. -/
theorem value_at : val_main_v156 (F := Ideal) x0 x1 x2 x3 x4 x5 (ix2 n 0) = rowValue p (x0 (ix2 n 0)) := by
  pointwise [val_main_v156]
  exact v122_at x0 x1 x2 x3 x4 x5 n _ _ _ _ _ _ (v77_at x0 x1 x2 x3 x4 x5 n p hp) (v83_at x0 x1 x2 x3 x4 x5 n p hp)
    (v79_at x0 x1 x2 x3 x4 x5 n p hp) (v87_at x0 x1 x2 x3 x4 x5 n p hp) (v89_at x0 x1 x2 x3 x4 x5 n p hp) (v93_at x0 x1 x2 x3 x4 x5 n p hp)

/-- The log-derivative there. -/
theorem logDeriv_at : val_main_v155 (F := Ideal) x0 x1 x2 x3 x4 x5 (ix1 n) = rowLogDeriv p (x0 (ix2 n 0)) :=
  v155_at x0 x1 x2 x3 x4 x5 n _ _ _ _ _ _ (v77_at x0 x1 x2 x3 x4 x5 n p hp) (v83_at x0 x1 x2 x3 x4 x5 n p hp)
    (v79_at x0 x1 x2 x3 x4 x5 n p hp) (v87_at x0 x1 x2 x3 x4 x5 n p hp) (v89_at x0 x1 x2 x3 x4 x5 n p hp) (v93_at x0 x1 x2 x3 x4 x5 n p hp)

end Cert.ReferenceIdeal.Row
-- ==== Proof.RefRun.lean ====
/- The reference program's run: its two results as the spline's values and log-derivatives, sample by sample. -/
module

public import proofs.«01_k».proof.Proof.Gen.ReferenceIdeal.Run
public import proofs.«01_k».proof.Proof.RefSpline

@[expose] public section

set_option maxRecDepth 16384

noncomputable section

namespace Cert.ReferenceIdeal.Row

open Idealize.ShloMosaic Idealize.ShloMosaic.TcCoe Idealize.SL.Sem
open Cert.ReferenceIdeal Cert.ReferenceIdeal.Gen Cert.ReferenceIdeal.Read Cert.Spline

variable (x0 : FVec Ideal S262144x1 .f32) (x1 : FVec Ideal S262144x16 .f32) (x2 : FVec Ideal S16x64 .f32) (x3 : FVec Ideal S64 .f32)
  (x4 : FVec Ideal S64x193 .f32) (x5 : FVec Ideal S193 .f32)

/-- The 193 numbers the network makes of sample `n`'s context. -/
def rowParams (n : Fin 262144) : ℕ → ℝ :=
  params (fun i => (x1 (ix2 n i)).toReal) (fun i k => (x2 (ix2 i k)).toReal) (fun k j => (x4 (ix2 k j)).toReal)

/-- The spline's values. -/
def valueColumn : FVec Ideal S262144x1 .f32 := fun i => rowValue (rowParams x1 x2 x4 (i 0)) (x0 (ix2 (i 0) 0))

/-- The logarithms of the spline's derivatives. -/
def logDerivColumn : FVec Ideal S262144 .f32 := fun i => rowLogDeriv (rowParams x1 x2 x4 (i 0)) (x0 (ix2 (i 0) 0))

section Columns

variable (h1 : ∀ n i, x1 (ix2 n i) = (((x1 (ix2 n i)).toReal : ℝ) : EReal)) (h2 : ∀ i k, x2 (ix2 i k) = (((x2 (ix2 i k)).toReal : ℝ) : EReal))
  (h3 : ∀ k, x3 (ix1 k) = 0) (h4 : ∀ k j, x4 (ix2 k j) = (((x4 (ix2 k j)).toReal : ℝ) : EReal)) (h5 : ∀ j, x5 (ix1 j) = 0)

include h1 h2 h3 h4 h5

theorem values_eq : val_main_v156 (F := Ideal) x0 x1 x2 x3 x4 x5 = valueColumn x0 x1 x2 x4 := by
  funext i
  have hi : i = ix2 (i 0) 0 := funext fun a => match a with
    | 0 => rfl
    | 1 => Fin.ext (Nat.lt_one_iff.1 (i 1).isLt)
  exact (congrArg _ hi).trans (value_at x0 x1 x2 x3 x4 x5 (i 0) (rowParams x1 x2 x4 (i 0)) (net_at x1 x2 x3 x4 x5 (i 0) _ _ _ (h1 (i 0)) h2 h3 h4 h5))

theorem logDerivs_eq : val_main_v155 (F := Ideal) x0 x1 x2 x3 x4 x5 = logDerivColumn x0 x1 x2 x4 := by
  funext i
  have hi : i = ix1 (i 0) := funext fun a => match a with
    | 0 => rfl
  exact (congrArg _ hi).trans (logDeriv_at x0 x1 x2 x3 x4 x5 (i 0) (rowParams x1 x2 x4 (i 0)) (net_at x1 x2 x3 x4 x5 (i 0) _ _ _ (h1 (i 0)) h2 h3 h4 h5))

end Columns

/-- The run, from any memory whose arguments are the six arrays on a device. -/
theorem run (m : (ℓ : Loc nD τ sig) → Buf (Elt Ideal) ℓ) (ρ : Dev nD → PrngReg) (y0 : Dev nD → FVec Ideal S262144x1 .f32)
    (y1 : Dev nD → FVec Ideal S262144x16 .f32) (y2 : Dev nD → FVec Ideal S16x64 .f32) (y3 : Dev nD → FVec Ideal S64 .f32)
    (y4 : Dev nD → FVec Ideal S64x193 .f32) (y5 : Dev nD → FVec Ideal S193 .f32)
    (e0 : ∀ c : Dev nD, m ((c.tc : Thread nD τ).loc main_arg0) = y0 c) (e1 : ∀ c : Dev nD, m ((c.tc : Thread nD τ).loc main_arg1) = y1 c)
    (e2 : ∀ c : Dev nD, m ((c.tc : Thread nD τ).loc main_arg2) = y2 c) (e3 : ∀ c : Dev nD, m ((c.tc : Thread nD τ).loc main_arg3) = y3 c)
    (e4 : ∀ c : Dev nD, m ((c.tc : Thread nD τ).loc main_arg4) = y4 c) (e5 : ∀ c : Dev nD, m ((c.tc : Thread nD τ).loc main_arg5) = y5 c)
    (h1 : ∀ c n i, y1 c (ix2 n i) = (((y1 c (ix2 n i)).toReal : ℝ) : EReal)) (h2 : ∀ c i k, y2 c (ix2 i k) = (((y2 c (ix2 i k)).toReal : ℝ) : EReal))
    (h3 : ∀ c k, y3 c (ix1 k) = 0) (h4 : ∀ c k j, y4 c (ix2 k j) = (((y4 c (ix2 k j)).toReal : ℝ) : EReal)) (h5 : ∀ c j, y5 c (ix1 j) = 0) :
    θ_run defs (onTc (τ := τ) (main (F := Ideal))) ⟨m, fun _ => 0, ρ⟩ (fun r => ∀ c : Dev nD,
      r.2.mem ((c.tc : Thread nD τ).loc main_v156) = valueColumn (y0 c) (y1 c) (y2 c) (y4 c)
      ∧ r.2.mem ((c.tc : Thread nD τ).loc main_v155) = logDerivColumn (y0 c) (y1 c) (y2 c) (y4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run defs _ _).mono (fun r h c => ⟨(h c).1.trans ?_, (h c).2.1.trans ?_, (h c).2.2⟩) (Cert.ReferenceIdeal.Value.run (F := Ideal) m ρ)
  · refine (val_main_v156_eq (F := Ideal) (StableHlo.launchContents m c)).trans ?_
    rw [StableHlo.launchContents_devRef, StableHlo.launchContents_devRef, StableHlo.launchContents_devRef, StableHlo.launchContents_devRef,
      StableHlo.launchContents_devRef, StableHlo.launchContents_devRef, e0 c, e1 c, e2 c, e3 c, e4 c, e5 c]
    exact values_eq (y0 c) (y1 c) (y2 c) (y3 c) (y4 c) (y5 c) (h1 c) (h2 c) (h3 c) (h4 c) (h5 c)
  · refine (val_main_v155_eq (F := Ideal) (StableHlo.launchContents m c)).trans ?_
    rw [StableHlo.launchContents_devRef, StableHlo.launchContents_devRef, StableHlo.launchContents_devRef, StableHlo.launchContents_devRef,
      StableHlo.launchContents_devRef, StableHlo.launchContents_devRef, e0 c, e1 c, e2 c, e3 c, e4 c, e5 c]
    exact logDerivs_eq (y0 c) (y1 c) (y2 c) (y3 c) (y4 c) (y5 c) (h1 c) (h2 c) (h3 c) (h4 c) (h5 c)

end Cert.ReferenceIdeal.Row
-- ==== Proof.Precondition.lean ====
/- What the precondition says element by element: the context and both weight matrices are real numbers, both bias vectors zero. -/
module

public import proofs.«01_k».proof.Defs
public import proofs.«01_k».proof.Proof.Spline
public import proofs.«01_k».proof.Proof.KernelRow

@[expose] public section

set_option maxRecDepth 16384

noncomputable section

namespace Cert.Precondition

open Idealize.ShloMosaic Cert.Pre_finite_net_zero_biases

/-- The relations the predicate's operations state. -/
theorem facts : Cert.Pre_finite_net_zero_biases.Facts := by
  constructor <;> decide

/-- A number whose absolute value is below infinity is real. -/
theorem real_of_bit (x : EReal) (h : BitVec.ofBool (decide (max x (-x) < Ideal.ofBits .f32 0x7F800000#32)) = 1#1) : x = ((x.toReal : ℝ) : EReal) := by
  have hlt := (KernelIdeal.Row.bit_iff _).1 h
  rw [Spline.ofBits_inf, max_lt_iff] at hlt
  refine (EReal.coe_toReal hlt.1.ne fun hb => ?_).symm
  rw [hb, EReal.neg_bot] at hlt
  exact absurd hlt.2 (lt_irrefl _)

theorem zero_of_bit (x : EReal) (h : BitVec.ofBool (decide (x = Ideal.ofBits .f32 0x00000000#32)) = 1#1) : x = 0 :=
  ((KernelIdeal.Row.bit_iff _).1 h).trans Ideal.ofBits_zero_f32

variable [Cert.Pre_finite_net_zero_biases.Facts]
  (x0 : FVec Ideal S262144x1 .f32) (x1 : FVec Ideal S262144x16 .f32) (x2 : FVec Ideal S16x64 .f32) (x3 : FVec Ideal S64 .f32)
  (x4 : FVec Ideal S64x193 .f32) (x5 : FVec Ideal S193 .f32)

theorem context_real (h : (fn (F := Ideal) x0 x1 x2 x3 x4 x5).1 = fun _ => 1#1) (i : S262144x16.Idx) : x1 i = (((x1 i).toReal : ℝ) : EReal) :=
  real_of_bit _ (congrFun h i)

theorem weights1_real (h : (fn (F := Ideal) x0 x1 x2 x3 x4 x5).2.1 = fun _ => 1#1) (i : S16x64.Idx) : x2 i = (((x2 i).toReal : ℝ) : EReal) :=
  real_of_bit _ (congrFun h i)

theorem weights2_real (h : (fn (F := Ideal) x0 x1 x2 x3 x4 x5).2.2.1 = fun _ => 1#1) (i : S64x193.Idx) : x4 i = (((x4 i).toReal : ℝ) : EReal) :=
  real_of_bit _ (congrFun h i)

theorem biases1_zero (h : (fn (F := Ideal) x0 x1 x2 x3 x4 x5).2.2.2.1 = fun _ => 1#1) (i : S64.Idx) : x3 i = (0 : EReal) :=
  zero_of_bit _ (congrFun h i)

theorem biases2_zero (h : (fn (F := Ideal) x0 x1 x2 x3 x4 x5).2.2.2.2 = fun _ => 1#1) (i : S193.Idx) : x5 i = (0 : EReal) :=
  zero_of_bit _ (congrFun h i)

end Cert.Precondition
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.KernelRun
public import proofs.«01_k».proof.Proof.RefRun
public import proofs.«01_k».proof.Proof.Precondition

@[expose] public section

noncomputable section

namespace Cert.Proof

open Idealize.ShloMosaic Idealize.SL.Sem

/-- The kernel's frame at the machine's bits. -/
theorem frame_kernel : Cert.quiescent_Kernel (hKernel := Cert.Kernel.Gen.facts) :=
  fun m ρ _ => Cert.Kernel.Gen.frame m ρ

/-- The idealized kernel's frame at the extended reals. -/
theorem frame_kernelIdeal : Cert.quiescent_KernelIdeal (hKernelIdeal := Cert.KernelIdeal.Gen.facts) :=
  fun m ρ _ => Cert.KernelIdeal.Gen.frame m ρ

/-- The same, of the memories the value claim speaks about. -/
theorem frame_kernelIdeal_pre : Cert.quiescent_KernelIdeal_pre_finite_net_zero_biases (hKernelIdeal := Cert.KernelIdeal.Gen.facts)
    (hPre_finite_net_zero_biases := Cert.Precondition.facts) :=
  fun m ρ _ => Cert.KernelIdeal.Gen.frame m ρ

/-- The reference's frame: its run writes no argument and touches no counter. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2.2, sem_eq_zero_of_no_sems (by decide) r.2⟩)
    (Cert.ReferenceIdeal.Value.run (F := Ideal) m ρ)

/-- The same, of the memories the value claim speaks about. -/
theorem frame_reference_pre : Cert.quiescent_ReferenceIdeal_pre_finite_net_zero_biases (hReferenceIdeal := Cert.ReferenceIdeal.Gen.facts)
    (hPre_finite_net_zero_biases := Cert.Precondition.facts) :=
  fun m ρ _ => frame_reference m ρ trivial

/-- Both programs end with the same two results. -/
theorem same_results : Cert.algebraic_KernelIdeal_ReferenceIdeal_pre_finite_net_zero_biases (hKernelIdeal := Cert.KernelIdeal.Gen.facts)
    (hReferenceIdeal := Cert.ReferenceIdeal.Gen.facts) (hPre_finite_net_zero_biases := Cert.Precondition.facts) := by
  letI := Cert.Precondition.facts
  intro m ρ m' ρ' hpre hargs
  refine ⟨Cert.KernelIdeal.Row.valueColumn m, Cert.KernelIdeal.Row.logDerivColumn m, ?_, ?_⟩
  · exact (θ_run Cert.KernelIdeal.defs _ _).mono (fun r h c => ⟨(h c).1.1, (h c).1.2, (h c).2⟩)
      (Cert.KernelIdeal.Row.run m ρ
        (fun c n i => Cert.Precondition.context_real _ _ _ _ _ _ (hpre c).1 _)
        (fun c i k => Cert.Precondition.weights1_real _ _ _ _ _ _ (hpre c).2.1 _)
        (fun c k j => Cert.Precondition.weights2_real _ _ _ _ _ _ (hpre c).2.2.1 _))
  · exact Cert.ReferenceIdeal.Row.run m' ρ' _ _ _ _ _ _ (fun c => (hargs c).1) (fun c => (hargs c).2.1) (fun c => (hargs c).2.2.1)
      (fun c => (hargs c).2.2.2.1) (fun c => (hargs c).2.2.2.2.1) (fun c => (hargs c).2.2.2.2.2)
      (fun c n i => Cert.Precondition.context_real _ _ _ _ _ _ (hpre c).1 _)
      (fun c i k => Cert.Precondition.weights1_real _ _ _ _ _ _ (hpre c).2.1 _)
      (fun c k => Cert.Precondition.biases1_zero _ _ _ _ _ _ (hpre c).2.2.2.1 _)
      (fun c k j => Cert.Precondition.weights2_real _ _ _ _ _ _ (hpre c).2.2.1 _)
      (fun c j => Cert.Precondition.biases2_zero _ _ _ _ _ _ (hpre c).2.2.2.2 _)

theorem claim : Cert.Claim :=
  ⟨Cert.Kernel.Gen.facts, Cert.KernelIdeal.Gen.facts, Cert.ReferenceIdeal.Gen.facts, Cert.Precondition.facts,
    frame_kernel, frame_kernelIdeal, frame_kernelIdeal_pre, frame_reference, frame_reference_pre, trivial, same_results⟩

end Cert.Proof

end
